-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S4x32x2x512 Cert.KernelIdeal.S4x32x1x512
  ∧ IdealRules.bf16_pair.PackStatement Cert.KernelIdeal.S32x512
  ∧ IdealRules.bf16_pair.Statement Cert.KernelIdeal.S1x32x2x512 Cert.KernelIdeal.S1x32x1x512
  ∧ IdealRules.bf16_pair.Statement Cert.KernelIdeal.S1x1x2x128 Cert.KernelIdeal.S1x1x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x8192 : Shape := ⟨3, ![32, 1, 8192]⟩
abbrev S32768x4096 : Shape := ⟨2, ![32768, 4096]⟩
abbrev S32768x32 : Shape := ⟨2, ![32768, 32]⟩
abbrev S32768x32x12 : Shape := ⟨3, ![32768, 32, 12]⟩
abbrev S32x128x2x32 : Shape := ⟨4, ![32, 128, 2, 32]⟩
abbrev S32x128x32x2 : Shape := ⟨4, ![32, 128, 32, 2]⟩
abbrev S32x8192 : Shape := ⟨2, ![32, 8192]⟩
abbrev S12x32x32768 : Shape := ⟨3, ![12, 32, 32768]⟩
abbrev S32x32768 : Shape := ⟨2, ![32, 32768]⟩
abbrev S512x4096 : Shape := ⟨2, ![512, 4096]⟩
abbrev S32x512 : Shape := ⟨2, ![32, 512]⟩
abbrev S12x32x512 : Shape := ⟨3, ![12, 32, 512]⟩
abbrev S4x32x512 : Shape := ⟨3, ![4, 32, 512]⟩
abbrev S1x32x512 : Shape := ⟨3, ![1, 32, 512]⟩
abbrev S8x512 : Shape := ⟨2, ![8, 512]⟩
abbrev S32x256 : Shape := ⟨2, ![32, 256]⟩
abbrev S128x128 : Shape := ⟨2, ![128, 128]⟩
abbrev S128x1x128 : Shape := ⟨3, ![128, 1, 128]⟩
abbrev S128x2x128 : Shape := ⟨3, ![128, 2, 128]⟩
abbrev S256x128 : Shape := ⟨2, ![256, 128]⟩
abbrev S64x128 : Shape := ⟨2, ![64, 128]⟩
abbrev S4x16x128 : Shape := ⟨3, ![4, 16, 128]⟩
abbrev S1x1x128 : Shape := ⟨3, ![1, 1, 128]⟩
abbrev S1x128 : Shape := ⟨2, ![1, 128]⟩
abbrev S8x128 : Shape := ⟨2, ![8, 128]⟩
abbrev S16x128 : Shape := ⟨2, ![16, 128]⟩
abbrev S1x16x128 : Shape := ⟨3, ![1, 16, 128]⟩
abbrev S256x256 : Shape := ⟨2, ![256, 256]⟩

abbrev nBuf : Space → Nat
  | .hbm => 12
  | .vmem => 13
  | .smem => 0
  | _ => 0

abbrev bufTy : (tb : Table) → Fin (tcTables nBuf tb) → BufTy
  | .hbm, ⟨0, _⟩ => ⟨S32x1x8192, .bf16⟩
  | .hbm, ⟨1, _⟩ => ⟨S32768x4096, .i8⟩
  | .hbm, ⟨2, _⟩ => ⟨S32768x32, .i16⟩
  | .hbm, ⟨3, _⟩ => ⟨S32768x32, .i16⟩
  | .hbm, ⟨4, _⟩ => ⟨S32768x32x12, .i8⟩
  | .hbm, ⟨5, _⟩ => ⟨S32x128x2x32, .bf16⟩
  | .hbm, ⟨6, _⟩ => ⟨S32x128x32x2, .bf16⟩
  | .hbm, ⟨7, _⟩ => ⟨S32x8192, .bf16⟩
  | .hbm, ⟨8, _⟩ => ⟨S12x32x32768, .i8⟩
  | .hbm, ⟨9, _⟩ => ⟨S32x32768, .i16⟩
  | .hbm, ⟨10, _⟩ => ⟨S32x32768, .i16⟩
  | .hbm, ⟨11, _⟩ => ⟨S32x32768, .bf16⟩
  | .local _ .vmem, ⟨0, _⟩ => ⟨S32x8192, .bf16⟩
  | .local _ .vmem, ⟨1, _⟩ => ⟨S512x4096, .i8⟩
  | .local _ .vmem, ⟨2, _⟩ => ⟨S512x4096, .i8⟩
  | .local _ .vmem, ⟨3, _⟩ => ⟨S32x512, .i16⟩
  | .local _ .vmem, ⟨4, _⟩ => ⟨S32x512, .i16⟩
  | .local _ .vmem, ⟨5, _⟩ => ⟨S32x512, .i16⟩
  | .local _ .vmem, ⟨6, _⟩ => ⟨S32x512, .i16⟩
  | .local _ .vmem, ⟨7, _⟩ => ⟨S12x32x512, .i8⟩
  | .local _ .vmem, ⟨8, _⟩ => ⟨S12x32x512, .i8⟩
  | .local _ .vmem, ⟨9, _⟩ => ⟨S32x512, .bf16⟩
  | .local _ .vmem, ⟨10, _⟩ => ⟨S32x512, .bf16⟩
  | .local _ .vmem, ⟨11, _⟩ => ⟨S4x32x512, .i32⟩
  | .local _ .vmem, ⟨12, _⟩ => ⟨S4x32x512, .i32⟩
  | _, _ => ⟨S32x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![64], ![false]⟩

@[reducible] def k0_t1_loop : Scf.Loop 32 :=
  let c0_i32_136 : BitVec 32 := 0#32
  let c32_i32 : BitVec 32 := 32#32
  let v309 : BitVec 32 := Scalar.addi c0_i32_136 c32_i32
  let c1_i32 : BitVec 32 := 1#32
  ⟨c0_i32_136, v309, c1_i32⟩
def k0_mult1 (k0_t1 : Fin k0_t1_loop.trips) : BitVec 32 :=
  let c0_i32_136 : BitVec 32 := 0#32
  let c1_i32 : BitVec 32 := 1#32
  let arg9 : BitVec 32 := Scf.iv c0_i32_136 c1_i32 k0_t1
  let c128_i32 : BitVec 32 := 128#32
  let v318 : BitVec 32 := Scalar.muli arg9 c128_i32
  v318
def k0_off1 (k0_t1 : Fin k0_t1_loop.trips) : Fin 2 → Nat :=
  let c0_146 : Index := 0#32
  let c0_i32_136 : BitVec 32 := 0#32
  let c1_i32 : BitVec 32 := 1#32
  let arg9 : BitVec 32 := Scf.iv c0_i32_136 c1_i32 k0_t1
  let c128_i32 : BitVec 32 := 128#32
  let v318 : BitVec 32 := Scalar.muli arg9 c128_i32
  let v319 : BitVec 32 := v318
  let v320 : Index := Scalar.indexCast v319
  ![0, v320.toNat]
def k0_off2 (k0_t1 : Fin k0_t1_loop.trips) : Fin 3 → Nat :=
  let c0_148 : Index := 0#32
  let c0_i32_136 : BitVec 32 := 0#32
  let c1_i32 : BitVec 32 := 1#32
  let arg9 : BitVec 32 := Scf.iv c0_i32_136 c1_i32 k0_t1
  let v335 : Index := Scalar.indexCast arg9
  let c0_149 : Index := 0#32
  ![0, v335.toNat, 0]
def k0_off3 (k0_t1 : Fin k0_t1_loop.trips) : Fin 3 → Nat :=
  let c1_152 : Index := 1#32
  let c0_i32_136 : BitVec 32 := 0#32
  let c1_i32 : BitVec 32 := 1#32
  let arg9 : BitVec 32 := Scf.iv c0_i32_136 c1_i32 k0_t1
  let v354 : Index := Scalar.indexCast arg9
  let c0_153 : Index := 0#32
  ![1, v354.toNat, 0]
def k0_off4 (k0_t1 : Fin k0_t1_loop.trips) : Fin 3 → Nat :=
  let c2_156 : Index := 2#32
  let c0_i32_136 : BitVec 32 := 0#32
  let c1_i32 : BitVec 32 := 1#32
  let arg9 : BitVec 32 := Scf.iv c0_i32_136 c1_i32 k0_t1
  let v373 : Index := Scalar.indexCast arg9
  let c0_157 : Index := 0#32
  ![2, v373.toNat, 0]
def k0_off5 (k0_t1 : Fin k0_t1_loop.trips) : Fin 3 → Nat :=
  let c3_160 : Index := 3#32
  let c0_i32_136 : BitVec 32 := 0#32
  let c1_i32 : BitVec 32 := 1#32
  let arg9 : BitVec 32 := Scf.iv c0_i32_136 c1_i32 k0_t1
  let v392 : Index := Scalar.indexCast arg9
  let c0_161 : Index := 0#32
  ![3, v392.toNat, 0]
def k0_mult2 (k0_t1 : Fin k0_t1_loop.trips) : BitVec 32 :=
  let c0_i32_136 : BitVec 32 := 0#32
  let c1_i32 : BitVec 32 := 1#32
  let arg9 : BitVec 32 := Scf.iv c0_i32_136 c1_i32 k0_t1
  let c128_i32_164 : BitVec 32 := 128#32
  let v410 : BitVec 32 := Scalar.muli arg9 c128_i32_164
  v410
def k0_off6 (k0_t1 : Fin k0_t1_loop.trips) : Fin 2 → Nat :=
  let c128 : Index := 128#32
  let c0_i32_136 : BitVec 32 := 0#32
  let c1_i32 : BitVec 32 := 1#32
  let arg9 : BitVec 32 := Scf.iv c0_i32_136 c1_i32 k0_t1
  let c128_i32_164 : BitVec 32 := 128#32
  let v410 : BitVec 32 := Scalar.muli arg9 c128_i32_164
  let v411 : BitVec 32 := v410
  let v412 : Index := Scalar.indexCast v411
  ![128, v412.toNat]
def k0_off7 (k0_t1 : Fin k0_t1_loop.trips) : Fin 3 → Nat :=
  let c0_167 : Index := 0#32
  let c0_i32_136 : BitVec 32 := 0#32
  let c1_i32 : BitVec 32 := 1#32
  let arg9 : BitVec 32 := Scf.iv c0_i32_136 c1_i32 k0_t1
  let v427 : Index := Scalar.indexCast arg9
  let c128_168 : Index := 128#32
  ![0, v427.toNat, 128]
def k0_off8 (k0_t1 : Fin k0_t1_loop.trips) : Fin 3 → Nat :=
  let c1_171 : Index := 1#32
  let c0_i32_136 : BitVec 32 := 0#32
  let c1_i32 : BitVec 32 := 1#32
  let arg9 : BitVec 32 := Scf.iv c0_i32_136 c1_i32 k0_t1
  let v446 : Index := Scalar.indexCast arg9
  let c128_172 : Index := 128#32
  ![1, v446.toNat, 128]
def k0_off9 (k0_t1 : Fin k0_t1_loop.trips) : Fin 3 → Nat :=
  let c2_175 : Index := 2#32
  let c0_i32_136 : BitVec 32 := 0#32
  let c1_i32 : BitVec 32 := 1#32
  let arg9 : BitVec 32 := Scf.iv c0_i32_136 c1_i32 k0_t1
  let v465 : Index := Scalar.indexCast arg9
  let c128_176 : Index := 128#32
  ![2, v465.toNat, 128]
def k0_off10 (k0_t1 : Fin k0_t1_loop.trips) : Fin 3 → Nat :=
  let c3_179 : Index := 3#32
  let c0_i32_136 : BitVec 32 := 0#32
  let c1_i32 : BitVec 32 := 1#32
  let arg9 : BitVec 32 := Scf.iv c0_i32_136 c1_i32 k0_t1
  let v484 : Index := Scalar.indexCast arg9
  let c128_180 : Index := 128#32
  ![3, v484.toNat, 128]
def k0_mult3 (k0_t1 : Fin k0_t1_loop.trips) : BitVec 32 :=
  let c0_i32_136 : BitVec 32 := 0#32
  let c1_i32 : BitVec 32 := 1#32
  let arg9 : BitVec 32 := Scf.iv c0_i32_136 c1_i32 k0_t1
  let c256_i32 : BitVec 32 := 256#32
  let v503 : BitVec 32 := Scalar.muli arg9 c256_i32
  v503
def k0_off11 (k0_t1 : Fin k0_t1_loop.trips) : Fin 2 → Nat :=
  let c0_183 : Index := 0#32
  let c0_i32_136 : BitVec 32 := 0#32
  let c1_i32 : BitVec 32 := 1#32
  let arg9 : BitVec 32 := Scf.iv c0_i32_136 c1_i32 k0_t1
  let c256_i32 : BitVec 32 := 256#32
  let v503 : BitVec 32 := Scalar.muli arg9 c256_i32
  let v504 : BitVec 32 := v503
  let v505 : Index := Scalar.indexCast v504
  ![0, v505.toNat]
@[reducible] def k0_t2_loop : Scf.Loop 32 :=
  let c0_i32_141 : BitVec 32 := 0#32
  let c32_i32_142 : BitVec 32 := 32#32
  let v314 : BitVec 32 := Scalar.addi c0_i32_141 c32_i32_142
  let c1_i32_143 : BitVec 32 := 1#32
  ⟨c0_i32_141, v314, c1_i32_143⟩
def k0_mult4 (k0_t2 : Fin k0_t2_loop.trips) : BitVec 32 :=
  let c0_i32_141 : BitVec 32 := 0#32
  let c1_i32_143 : BitVec 32 := 1#32
  let arg9 : BitVec 32 := Scf.iv c0_i32_141 c1_i32_143 k0_t2
  let c128_i32 : BitVec 32 := 128#32
  let v318 : BitVec 32 := Scalar.muli arg9 c128_i32
  v318
def k0_off12 (k0_t2 : Fin k0_t2_loop.trips) : Fin 2 → Nat :=
  let c256_146 : Index := 256#32
  let c0_i32_141 : BitVec 32 := 0#32
  let c1_i32_143 : BitVec 32 := 1#32
  let arg9 : BitVec 32 := Scf.iv c0_i32_141 c1_i32_143 k0_t2
  let c128_i32 : BitVec 32 := 128#32
  let v318 : BitVec 32 := Scalar.muli arg9 c128_i32
  let v319 : BitVec 32 := v318
  let v320 : Index := Scalar.indexCast v319
  ![256, v320.toNat]
def k0_off13 (k0_t2 : Fin k0_t2_loop.trips) : Fin 3 → Nat :=
  let c0_148 : Index := 0#32
  let c0_i32_141 : BitVec 32 := 0#32
  let c1_i32_143 : BitVec 32 := 1#32
  let arg9 : BitVec 32 := Scf.iv c0_i32_141 c1_i32_143 k0_t2
  let v335 : Index := Scalar.indexCast arg9
  let c256_149 : Index := 256#32
  ![0, v335.toNat, 256]
def k0_off14 (k0_t2 : Fin k0_t2_loop.trips) : Fin 3 → Nat :=
  let c1_152 : Index := 1#32
  let c0_i32_141 : BitVec 32 := 0#32
  let c1_i32_143 : BitVec 32 := 1#32
  let arg9 : BitVec 32 := Scf.iv c0_i32_141 c1_i32_143 k0_t2
  let v354 : Index := Scalar.indexCast arg9
  let c256_153 : Index := 256#32
  ![1, v354.toNat, 256]
def k0_off15 (k0_t2 : Fin k0_t2_loop.trips) : Fin 3 → Nat :=
  let c2_156 : Index := 2#32
  let c0_i32_141 : BitVec 32 := 0#32
  let c1_i32_143 : BitVec 32 := 1#32
  let arg9 : BitVec 32 := Scf.iv c0_i32_141 c1_i32_143 k0_t2
  let v373 : Index := Scalar.indexCast arg9
  let c256_157 : Index := 256#32
  ![2, v373.toNat, 256]
def k0_off16 (k0_t2 : Fin k0_t2_loop.trips) : Fin 3 → Nat :=
  let c3_160 : Index := 3#32
  let c0_i32_141 : BitVec 32 := 0#32
  let c1_i32_143 : BitVec 32 := 1#32
  let arg9 : BitVec 32 := Scf.iv c0_i32_141 c1_i32_143 k0_t2
  let v392 : Index := Scalar.indexCast arg9
  let c256_161 : Index := 256#32
  ![3, v392.toNat, 256]
def k0_mult5 (k0_t2 : Fin k0_t2_loop.trips) : BitVec 32 :=
  let c0_i32_141 : BitVec 32 := 0#32
  let c1_i32_143 : BitVec 32 := 1#32
  let arg9 : BitVec 32 := Scf.iv c0_i32_141 c1_i32_143 k0_t2
  let c128_i32_164 : BitVec 32 := 128#32
  let v410 : BitVec 32 := Scalar.muli arg9 c128_i32_164
  v410
def k0_off17 (k0_t2 : Fin k0_t2_loop.trips) : Fin 2 → Nat :=
  let c384 : Index := 384#32
  let c0_i32_141 : BitVec 32 := 0#32
  let c1_i32_143 : BitVec 32 := 1#32
  let arg9 : BitVec 32 := Scf.iv c0_i32_141 c1_i32_143 k0_t2
  let c128_i32_164 : BitVec 32 := 128#32
  let v410 : BitVec 32 := Scalar.muli arg9 c128_i32_164
  let v411 : BitVec 32 := v410
  let v412 : Index := Scalar.indexCast v411
  ![384, v412.toNat]
def k0_off18 (k0_t2 : Fin k0_t2_loop.trips) : Fin 3 → Nat :=
  let c0_167 : Index := 0#32
  let c0_i32_141 : BitVec 32 := 0#32
  let c1_i32_143 : BitVec 32 := 1#32
  let arg9 : BitVec 32 := Scf.iv c0_i32_141 c1_i32_143 k0_t2
  let v427 : Index := Scalar.indexCast arg9
  let c384_168 : Index := 384#32
  ![0, v427.toNat, 384]
def k0_off19 (k0_t2 : Fin k0_t2_loop.trips) : Fin 3 → Nat :=
  let c1_171 : Index := 1#32
  let c0_i32_141 : BitVec 32 := 0#32
  let c1_i32_143 : BitVec 32 := 1#32
  let arg9 : BitVec 32 := Scf.iv c0_i32_141 c1_i32_143 k0_t2
  let v446 : Index := Scalar.indexCast arg9
  let c384_172 : Index := 384#32
  ![1, v446.toNat, 384]
def k0_off20 (k0_t2 : Fin k0_t2_loop.trips) : Fin 3 → Nat :=
  let c2_175 : Index := 2#32
  let c0_i32_141 : BitVec 32 := 0#32
  let c1_i32_143 : BitVec 32 := 1#32
  let arg9 : BitVec 32 := Scf.iv c0_i32_141 c1_i32_143 k0_t2
  let v465 : Index := Scalar.indexCast arg9
  let c384_176 : Index := 384#32
  ![2, v465.toNat, 384]
def k0_off21 (k0_t2 : Fin k0_t2_loop.trips) : Fin 3 → Nat :=
  let c3_179 : Index := 3#32
  let c0_i32_141 : BitVec 32 := 0#32
  let c1_i32_143 : BitVec 32 := 1#32
  let arg9 : BitVec 32 := Scf.iv c0_i32_141 c1_i32_143 k0_t2
  let v484 : Index := Scalar.indexCast arg9
  let c384_180 : Index := 384#32
  ![3, v484.toNat, 384]
def k0_mult6 (k0_t2 : Fin k0_t2_loop.trips) : BitVec 32 :=
  let c0_i32_141 : BitVec 32 := 0#32
  let c1_i32_143 : BitVec 32 := 1#32
  let arg9 : BitVec 32 := Scf.iv c0_i32_141 c1_i32_143 k0_t2
  let c256_i32 : BitVec 32 := 256#32
  let v503 : BitVec 32 := Scalar.muli arg9 c256_i32
  v503
def k0_off22 (k0_t2 : Fin k0_t2_loop.trips) : Fin 2 → Nat :=
  let c0_183 : Index := 0#32
  let c0_i32_141 : BitVec 32 := 0#32
  let c1_i32_143 : BitVec 32 := 1#32
  let arg9 : BitVec 32 := Scf.iv c0_i32_141 c1_i32_143 k0_t2
  let c256_i32 : BitVec 32 := 256#32
  let v503 : BitVec 32 := Scalar.muli arg9 c256_i32
  let v504 : BitVec 32 := v503
  let v505 : Index := Scalar.indexCast v504
  ![0, v505.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S12x32x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S32x1x8192 : Shape := ⟨3, ![32, 1, 8192]⟩
abbrev S32768x4096 : Shape := ⟨2, ![32768, 4096]⟩
abbrev S32768x32 : Shape := ⟨2, ![32768, 32]⟩
abbrev S32768x32x12 : Shape := ⟨3, ![32768, 32, 12]⟩
abbrev S32x128x2x32 : Shape := ⟨4, ![32, 128, 2, 32]⟩
abbrev S32x128x32x2 : Shape := ⟨4, ![32, 128, 32, 2]⟩
abbrev S32x8192 : Shape := ⟨2, ![32, 8192]⟩
abbrev S12x32x32768 : Shape := ⟨3, ![12, 32, 32768]⟩
abbrev S32x32768 : Shape := ⟨2, ![32, 32768]⟩
abbrev S512x4096 : Shape := ⟨2, ![512, 4096]⟩
abbrev S32x512 : Shape := ⟨2, ![32, 512]⟩
abbrev S12x32x512 : Shape := ⟨3, ![12, 32, 512]⟩
abbrev S4x32x512 : Shape := ⟨3, ![4, 32, 512]⟩
abbrev S4x32x2x512 : Shape := ⟨4, ![4, 32, 2, 512]⟩
abbrev S4x32x1x512 : Shape := ⟨4, ![4, 32, 1, 512]⟩
abbrev S1x32x512 : Shape := ⟨3, ![1, 32, 512]⟩
abbrev S8x512 : Shape := ⟨2, ![8, 512]⟩
abbrev S1x32x2x512 : Shape := ⟨4, ![1, 32, 2, 512]⟩
abbrev S1x32x1x512 : Shape := ⟨4, ![1, 32, 1, 512]⟩
abbrev S32x256 : Shape := ⟨2, ![32, 256]⟩
abbrev S128x128 : Shape := ⟨2, ![128, 128]⟩
abbrev S128x1x128 : Shape := ⟨3, ![128, 1, 128]⟩
abbrev S128x2x128 : Shape := ⟨3, ![128, 2, 128]⟩
abbrev S256x128 : Shape := ⟨2, ![256, 128]⟩
abbrev S64x128 : Shape := ⟨2, ![64, 128]⟩
abbrev S4x16x128 : Shape := ⟨3, ![4, 16, 128]⟩
abbrev S1x1x128 : Shape := ⟨3, ![1, 1, 128]⟩
abbrev S1x1x2x128 : Shape := ⟨4, ![1, 1, 2, 128]⟩
abbrev S1x1x1x128 : Shape := ⟨4, ![1, 1, 1, 128]⟩
abbrev S1x128 : Shape := ⟨2, ![1, 128]⟩
abbrev S8x128 : Shape := ⟨2, ![8, 128]⟩
abbrev S16x128 : Shape := ⟨2, ![16, 128]⟩
abbrev S1x16x128 : Shape := ⟨3, ![1, 16, 128]⟩
abbrev S256x256 : Shape := ⟨2, ![256, 256]⟩

abbrev nBuf : Space → Nat
  | .hbm => 12
  | .vmem => 13
  | .smem => 0
  | _ => 0

abbrev bufTy : (tb : Table) → Fin (tcTables nBuf tb) → BufTy
  | .hbm, ⟨0, _⟩ => ⟨S32x1x8192, .bf16⟩
  | .hbm, ⟨1, _⟩ => ⟨S32768x4096, .i8⟩
  | .hbm, ⟨2, _⟩ => ⟨S32768x32, .i16⟩
  | .hbm, ⟨3, _⟩ => ⟨S32768x32, .i16⟩
  | .hbm, ⟨4, _⟩ => ⟨S32768x32x12, .i8⟩
  | .hbm, ⟨5, _⟩ => ⟨S32x128x2x32, .bf16⟩
  | .hbm, ⟨6, _⟩ => ⟨S32x128x32x2, .bf16⟩
  | .hbm, ⟨7, _⟩ => ⟨S32x8192, .bf16⟩
  | .hbm, ⟨8, _⟩ => ⟨S12x32x32768, .i8⟩
  | .hbm, ⟨9, _⟩ => ⟨S32x32768, .i16⟩
  | .hbm, ⟨10, _⟩ => ⟨S32x32768, .i16⟩
  | .hbm, ⟨11, _⟩ => ⟨S32x32768, .bf16⟩
  | .local _ .vmem, ⟨0, _⟩ => ⟨S32x8192, .bf16⟩
  | .local _ .vmem, ⟨1, _⟩ => ⟨S512x4096, .i8⟩
  | .local _ .vmem, ⟨2, _⟩ => ⟨S512x4096, .i8⟩
  | .local _ .vmem, ⟨3, _⟩ => ⟨S32x512, .i16⟩
  | .local _ .vmem, ⟨4, _⟩ => ⟨S32x512, .i16⟩
  | .local _ .vmem, ⟨5, _⟩ => ⟨S32x512, .i16⟩
  | .local _ .vmem, ⟨6, _⟩ => ⟨S32x512, .i16⟩
  | .local _ .vmem, ⟨7, _⟩ => ⟨S12x32x512, .i8⟩
  | .local _ .vmem, ⟨8, _⟩ => ⟨S12x32x512, .i8⟩
  | .local _ .vmem, ⟨9, _⟩ => ⟨S32x512, .bf16⟩
  | .local _ .vmem, ⟨10, _⟩ => ⟨S32x512, .bf16⟩
  | .local _ .vmem, ⟨11, _⟩ => ⟨S4x32x2x512, .bf16⟩
  | .local _ .vmem, ⟨12, _⟩ => ⟨S4x32x2x512, .bf16⟩
  | _, _ => ⟨S32x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_136 : BitVec 32 := 0#32
  let c32_i32 : BitVec 32 := 32#32
  let v309 : BitVec 32 := Scalar.addi c0_i32_136 c32_i32
  let c1_i32 : BitVec 32 := 1#32
  ⟨c0_i32_136, v309, c1_i32⟩
def k0_mult1 (k0_t1 : Fin k0_t1_loop.trips) : BitVec 32 :=
  let c0_i32_136 : BitVec 32 := 0#32
  let c1_i32 : BitVec 32 := 1#32
  let arg9 : BitVec 32 := Scf.iv c0_i32_136 c1_i32 k0_t1
  let c128_i32 : BitVec 32 := 128#32
  let v318 : BitVec 32 := Scalar.muli arg9 c128_i32
  v318
def k0_off1 (k0_t1 : Fin k0_t1_loop.trips) : Fin 2 → Nat :=
  let c0_146 : Index := 0#32
  let c0_i32_136 : BitVec 32 := 0#32
  let c1_i32 : BitVec 32 := 1#32
  let arg9 : BitVec 32 := Scf.iv c0_i32_136 c1_i32 k0_t1
  let c128_i32 : BitVec 32 := 128#32
  let v318 : BitVec 32 := Scalar.muli arg9 c128_i32
  let v319 : BitVec 32 := v318
  let v320 : Index := Scalar.indexCast v319
  ![0, v320.toNat]
def k0_off2 (k0_t1 : Fin k0_t1_loop.trips) : Fin 4 → Nat :=
  let c0_148 : Index := 0#32
  let c0_i32_136 : BitVec 32 := 0#32
  let c1_i32 : BitVec 32 := 1#32
  let arg9 : BitVec 32 := Scf.iv c0_i32_136 c1_i32 k0_t1
  let v335 : Index := Scalar.indexCast arg9
  let c0_149 : Index := 0#32
  ![0, v335.toNat, 0, 0]
def k0_off3 (k0_t1 : Fin k0_t1_loop.trips) : Fin 4 → Nat :=
  let c1_152 : Index := 1#32
  let c0_i32_136 : BitVec 32 := 0#32
  let c1_i32 : BitVec 32 := 1#32
  let arg9 : BitVec 32 := Scf.iv c0_i32_136 c1_i32 k0_t1
  let v354 : Index := Scalar.indexCast arg9
  let c0_153 : Index := 0#32
  ![1, v354.toNat, 0, 0]
def k0_off4 (k0_t1 : Fin k0_t1_loop.trips) : Fin 4 → Nat :=
  let c2_156 : Index := 2#32
  let c0_i32_136 : BitVec 32 := 0#32
  let c1_i32 : BitVec 32 := 1#32
  let arg9 : BitVec 32 := Scf.iv c0_i32_136 c1_i32 k0_t1
  let v373 : Index := Scalar.indexCast arg9
  let c0_157 : Index := 0#32
  ![2, v373.toNat, 0, 0]
def k0_off5 (k0_t1 : Fin k0_t1_loop.trips) : Fin 4 → Nat :=
  let c3_160 : Index := 3#32
  let c0_i32_136 : BitVec 32 := 0#32
  let c1_i32 : BitVec 32 := 1#32
  let arg9 : BitVec 32 := Scf.iv c0_i32_136 c1_i32 k0_t1
  let v392 : Index := Scalar.indexCast arg9
  let c0_161 : Index := 0#32
  ![3, v392.toNat, 0, 0]
def k0_mult2 (k0_t1 : Fin k0_t1_loop.trips) : BitVec 32 :=
  let c0_i32_136 : BitVec 32 := 0#32
  let c1_i32 : BitVec 32 := 1#32
  let arg9 : BitVec 32 := Scf.iv c0_i32_136 c1_i32 k0_t1
  let c128_i32_164 : BitVec 32 := 128#32
  let v410 : BitVec 32 := Scalar.muli arg9 c128_i32_164
  v410
def k0_off6 (k0_t1 : Fin k0_t1_loop.trips) : Fin 2 → Nat :=
  let c128 : Index := 128#32
  let c0_i32_136 : BitVec 32 := 0#32
  let c1_i32 : BitVec 32 := 1#32
  let arg9 : BitVec 32 := Scf.iv c0_i32_136 c1_i32 k0_t1
  let c128_i32_164 : BitVec 32 := 128#32
  let v410 : BitVec 32 := Scalar.muli arg9 c128_i32_164
  let v411 : BitVec 32 := v410
  let v412 : Index := Scalar.indexCast v411
  ![128, v412.toNat]
def k0_off7 (k0_t1 : Fin k0_t1_loop.trips) : Fin 4 → Nat :=
  let c0_167 : Index := 0#32
  let c0_i32_136 : BitVec 32 := 0#32
  let c1_i32 : BitVec 32 := 1#32
  let arg9 : BitVec 32 := Scf.iv c0_i32_136 c1_i32 k0_t1
  let v427 : Index := Scalar.indexCast arg9
  let c128_168 : Index := 128#32
  ![0, v427.toNat, 0, 128]
def k0_off8 (k0_t1 : Fin k0_t1_loop.trips) : Fin 4 → Nat :=
  let c1_171 : Index := 1#32
  let c0_i32_136 : BitVec 32 := 0#32
  let c1_i32 : BitVec 32 := 1#32
  let arg9 : BitVec 32 := Scf.iv c0_i32_136 c1_i32 k0_t1
  let v446 : Index := Scalar.indexCast arg9
  let c128_172 : Index := 128#32
  ![1, v446.toNat, 0, 128]
def k0_off9 (k0_t1 : Fin k0_t1_loop.trips) : Fin 4 → Nat :=
  let c2_175 : Index := 2#32
  let c0_i32_136 : BitVec 32 := 0#32
  let c1_i32 : BitVec 32 := 1#32
  let arg9 : BitVec 32 := Scf.iv c0_i32_136 c1_i32 k0_t1
  let v465 : Index := Scalar.indexCast arg9
  let c128_176 : Index := 128#32
  ![2, v465.toNat, 0, 128]
def k0_off10 (k0_t1 : Fin k0_t1_loop.trips) : Fin 4 → Nat :=
  let c3_179 : Index := 3#32
  let c0_i32_136 : BitVec 32 := 0#32
  let c1_i32 : BitVec 32 := 1#32
  let arg9 : BitVec 32 := Scf.iv c0_i32_136 c1_i32 k0_t1
  let v484 : Index := Scalar.indexCast arg9
  let c128_180 : Index := 128#32
  ![3, v484.toNat, 0, 128]
def k0_mult3 (k0_t1 : Fin k0_t1_loop.trips) : BitVec 32 :=
  let c0_i32_136 : BitVec 32 := 0#32
  let c1_i32 : BitVec 32 := 1#32
  let arg9 : BitVec 32 := Scf.iv c0_i32_136 c1_i32 k0_t1
  let c256_i32 : BitVec 32 := 256#32
  let v503 : BitVec 32 := Scalar.muli arg9 c256_i32
  v503
def k0_off11 (k0_t1 : Fin k0_t1_loop.trips) : Fin 2 → Nat :=
  let c0_183 : Index := 0#32
  let c0_i32_136 : BitVec 32 := 0#32
  let c1_i32 : BitVec 32 := 1#32
  let arg9 : BitVec 32 := Scf.iv c0_i32_136 c1_i32 k0_t1
  let c256_i32 : BitVec 32 := 256#32
  let v503 : BitVec 32 := Scalar.muli arg9 c256_i32
  let v504 : BitVec 32 := v503
  let v505 : Index := Scalar.indexCast v504
  ![0, v505.toNat]
@[reducible] def k0_t2_loop : Scf.Loop 32 :=
  let c0_i32_141 : BitVec 32 := 0#32
  let c32_i32_142 : BitVec 32 := 32#32
  let v314 : BitVec 32 := Scalar.addi c0_i32_141 c32_i32_142
  let c1_i32_143 : BitVec 32 := 1#32
  ⟨c0_i32_141, v314, c1_i32_143⟩
def k0_mult4 (k0_t2 : Fin k0_t2_loop.trips) : BitVec 32 :=
  let c0_i32_141 : BitVec 32 := 0#32
  let c1_i32_143 : BitVec 32 := 1#32
  let arg9 : BitVec 32 := Scf.iv c0_i32_141 c1_i32_143 k0_t2
  let c128_i32 : BitVec 32 := 128#32
  let v318 : BitVec 32 := Scalar.muli arg9 c128_i32
  v318
def k0_off12 (k0_t2 : Fin k0_t2_loop.trips) : Fin 2 → Nat :=
  let c256_146 : Index := 256#32
  let c0_i32_141 : BitVec 32 := 0#32
  let c1_i32_143 : BitVec 32 := 1#32
  let arg9 : BitVec 32 := Scf.iv c0_i32_141 c1_i32_143 k0_t2
  let c128_i32 : BitVec 32 := 128#32
  let v318 : BitVec 32 := Scalar.muli arg9 c128_i32
  let v319 : BitVec 32 := v318
  let v320 : Index := Scalar.indexCast v319
  ![256, v320.toNat]
def k0_off13 (k0_t2 : Fin k0_t2_loop.trips) : Fin 4 → Nat :=
  let c0_148 : Index := 0#32
  let c0_i32_141 : BitVec 32 := 0#32
  let c1_i32_143 : BitVec 32 := 1#32
  let arg9 : BitVec 32 := Scf.iv c0_i32_141 c1_i32_143 k0_t2
  let v335 : Index := Scalar.indexCast arg9
  let c256_149 : Index := 256#32
  ![0, v335.toNat, 0, 256]
def k0_off14 (k0_t2 : Fin k0_t2_loop.trips) : Fin 4 → Nat :=
  let c1_152 : Index := 1#32
  let c0_i32_141 : BitVec 32 := 0#32
  let c1_i32_143 : BitVec 32 := 1#32
  let arg9 : BitVec 32 := Scf.iv c0_i32_141 c1_i32_143 k0_t2
  let v354 : Index := Scalar.indexCast arg9
  let c256_153 : Index := 256#32
  ![1, v354.toNat, 0, 256]
def k0_off15 (k0_t2 : Fin k0_t2_loop.trips) : Fin 4 → Nat :=
  let c2_156 : Index := 2#32
  let c0_i32_141 : BitVec 32 := 0#32
  let c1_i32_143 : BitVec 32 := 1#32
  let arg9 : BitVec 32 := Scf.iv c0_i32_141 c1_i32_143 k0_t2
  let v373 : Index := Scalar.indexCast arg9
  let c256_157 : Index := 256#32
  ![2, v373.toNat, 0, 256]
def k0_off16 (k0_t2 : Fin k0_t2_loop.trips) : Fin 4 → Nat :=
  let c3_160 : Index := 3#32
  let c0_i32_141 : BitVec 32 := 0#32
  let c1_i32_143 : BitVec 32 := 1#32
  let arg9 : BitVec 32 := Scf.iv c0_i32_141 c1_i32_143 k0_t2
  let v392 : Index := Scalar.indexCast arg9
  let c256_161 : Index := 256#32
  ![3, v392.toNat, 0, 256]
def k0_mult5 (k0_t2 : Fin k0_t2_loop.trips) : BitVec 32 :=
  let c0_i32_141 : BitVec 32 := 0#32
  let c1_i32_143 : BitVec 32 := 1#32
  let arg9 : BitVec 32 := Scf.iv c0_i32_141 c1_i32_143 k0_t2
  let c128_i32_164 : BitVec 32 := 128#32
  let v410 : BitVec 32 := Scalar.muli arg9 c128_i32_164
  v410
def k0_off17 (k0_t2 : Fin k0_t2_loop.trips) : Fin 2 → Nat :=
  let c384 : Index := 384#32
  let c0_i32_141 : BitVec 32 := 0#32
  let c1_i32_143 : BitVec 32 := 1#32
  let arg9 : BitVec 32 := Scf.iv c0_i32_141 c1_i32_143 k0_t2
  let c128_i32_164 : BitVec 32 := 128#32
  let v410 : BitVec 32 := Scalar.muli arg9 c128_i32_164
  let v411 : BitVec 32 := v410
  let v412 : Index := Scalar.indexCast v411
  ![384, v412.toNat]
def k0_off18 (k0_t2 : Fin k0_t2_loop.trips) : Fin 4 → Nat :=
  let c0_167 : Index := 0#32
  let c0_i32_141 : BitVec 32 := 0#32
  let c1_i32_143 : BitVec 32 := 1#32
  let arg9 : BitVec 32 := Scf.iv c0_i32_141 c1_i32_143 k0_t2
  let v427 : Index := Scalar.indexCast arg9
  let c384_168 : Index := 384#32
  ![0, v427.toNat, 0, 384]
def k0_off19 (k0_t2 : Fin k0_t2_loop.trips) : Fin 4 → Nat :=
  let c1_171 : Index := 1#32
  let c0_i32_141 : BitVec 32 := 0#32
  let c1_i32_143 : BitVec 32 := 1#32
  let arg9 : BitVec 32 := Scf.iv c0_i32_141 c1_i32_143 k0_t2
  let v446 : Index := Scalar.indexCast arg9
  let c384_172 : Index := 384#32
  ![1, v446.toNat, 0, 384]
def k0_off20 (k0_t2 : Fin k0_t2_loop.trips) : Fin 4 → Nat :=
  let c2_175 : Index := 2#32
  let c0_i32_141 : BitVec 32 := 0#32
  let c1_i32_143 : BitVec 32 := 1#32
  let arg9 : BitVec 32 := Scf.iv c0_i32_141 c1_i32_143 k0_t2
  let v465 : Index := Scalar.indexCast arg9
  let c384_176 : Index := 384#32
  ![2, v465.toNat, 0, 384]
def k0_off21 (k0_t2 : Fin k0_t2_loop.trips) : Fin 4 → Nat :=
  let c3_179 : Index := 3#32
  let c0_i32_141 : BitVec 32 := 0#32
  let c1_i32_143 : BitVec 32 := 1#32
  let arg9 : BitVec 32 := Scf.iv c0_i32_141 c1_i32_143 k0_t2
  let v484 : Index := Scalar.indexCast arg9
  let c384_180 : Index := 384#32
  ![3, v484.toNat, 0, 384]
def k0_mult6 (k0_t2 : Fin k0_t2_loop.trips) : BitVec 32 :=
  let c0_i32_141 : BitVec 32 := 0#32
  let c1_i32_143 : BitVec 32 := 1#32
  let arg9 : BitVec 32 := Scf.iv c0_i32_141 c1_i32_143 k0_t2
  let c256_i32 : BitVec 32 := 256#32
  let v503 : BitVec 32 := Scalar.muli arg9 c256_i32
  v503
def k0_off22 (k0_t2 : Fin k0_t2_loop.trips) : Fin 2 → Nat :=
  let c0_183 : Index := 0#32
  let c0_i32_141 : BitVec 32 := 0#32
  let c1_i32_143 : BitVec 32 := 1#32
  let arg9 : BitVec 32 := Scf.iv c0_i32_141 c1_i32_143 k0_t2
  let c256_i32 : BitVec 32 := 256#32
  let v503 : BitVec 32 := Scalar.muli arg9 c256_i32
  let v504 : BitVec 32 := v503
  let v505 : Index := Scalar.indexCast v504
  ![0, v505.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S12x32x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32x1x8192 : Shape := ⟨3, ![32, 1, 8192]⟩
abbrev S32768x4096 : Shape := ⟨2, ![32768, 4096]⟩
abbrev S32768x32 : Shape := ⟨2, ![32768, 32]⟩
abbrev S32768x32x12 : Shape := ⟨3, ![32768, 32, 12]⟩
abbrev S32768x32x4 : Shape := ⟨3, ![32768, 32, 4]⟩
abbrev S_ : Shape := ⟨0, ![]⟩
abbrev S32768x32x8 : Shape := ⟨3, ![32768, 32, 8]⟩
abbrev S32768x32x1 : Shape := ⟨3, ![32768, 32, 1]⟩
abbrev S32768x128x2 : Shape := ⟨3, ![32768, 128, 2]⟩
abbrev S32768x128x32 : Shape := ⟨3, ![32768, 128, 32]⟩
abbrev S32768x128x1 : Shape := ⟨3, ![32768, 128, 1]⟩
abbrev S32x1x128x2x32 : Shape := ⟨5, ![32, 1, 128, 2, 32]⟩
abbrev S32x1x128x1x32 : Shape := ⟨5, ![32, 1, 128, 1, 32]⟩
abbrev S32x1x128x32 : Shape := ⟨4, ![32, 1, 128, 32]⟩
abbrev S32x1x32768 : Shape := ⟨3, ![32, 1, 32768]⟩
abbrev S32x32768 : Shape := ⟨2, ![32, 32768]⟩

abbrev nBuf : Space → Nat
  | .hbm => 189
  | .vmem => 0
  | .smem => 0
  | _ => 0

abbrev hbmTy0_0 (i : Nat) : BufTy := match i % 128 with
  | 0 => ⟨S32x1x8192, .bf16⟩
  | 1 => ⟨S32768x4096, .i8⟩
  | 2 => ⟨S32768x32, .i16⟩
  | 3 => ⟨S32768x32, .i16⟩
  | 4 => ⟨S32768x32x12, .i8⟩
  | 5 => ⟨S32768x32x12, .i32⟩
  | 6 => ⟨S32768x32x4, .i32⟩
  | 7 => ⟨S32768x32x4, .i32⟩
  | 8 => ⟨S32768x32x4, .i32⟩
  | 9 => ⟨S_, .i32⟩
  | 10 => ⟨S32768x32x4, .i32⟩
  | 11 => ⟨S32768x32x4, .i32⟩
  | 12 => ⟨S_, .i32⟩
  | 13 => ⟨S32768x32x4, .i32⟩
  | 14 => ⟨S32768x32x4, .i32⟩
  | 15 => ⟨S_, .i32⟩
  | 16 => ⟨S32768x32x4, .i32⟩
  | 17 => ⟨S32768x32x4, .i32⟩
  | 18 => ⟨S_, .i32⟩
  | 19 => ⟨S32768x32x4, .i32⟩
  | 20 => ⟨S32768x32x4, .i32⟩
  | 21 => ⟨S_, .i32⟩
  | 22 => ⟨S32768x32x4, .i32⟩
  | 23 => ⟨S32768x32x4, .i32⟩
  | 24 => ⟨S32768x32x4, .i32⟩
  | 25 => ⟨S_, .i32⟩
  | 26 => ⟨S32768x32x4, .i32⟩
  | 27 => ⟨S32768x32x4, .i32⟩
  | 28 => ⟨S_, .i32⟩
  | 29 => ⟨S32768x32x4, .i32⟩
  | 30 => ⟨S32768x32x4, .i32⟩
  | 31 => ⟨S_, .i32⟩
  | 32 => ⟨S32768x32x4, .i32⟩
  | 33 => ⟨S32768x32x4, .i32⟩
  | 34 => ⟨S32768x32x4, .i32⟩
  | 35 => ⟨S32768x32x8, .i32⟩
  | 36 => ⟨S32768x32x8, .i32⟩
  | 37 => ⟨S32768x32, .i32⟩
  | 38 => ⟨S_, .i32⟩
  | 39 => ⟨S32768x32, .i32⟩
  | 40 => ⟨S32768x32, .i32⟩
  | 41 => ⟨S_, .i32⟩
  | 42 => ⟨S32768x32, .i32⟩
  | 43 => ⟨S32768x32, .i32⟩
  | 44 => ⟨S_, .i32⟩
  | 45 => ⟨S32768x32, .i32⟩
  | 46 => ⟨S32768x32, .i32⟩
  | 47 => ⟨S32768x32, .f32⟩
  | 48 => ⟨S_, .f32⟩
  | 49 => ⟨S32768x32, .f32⟩
  | 50 => ⟨S32768x32, .f32⟩
  | 51 => ⟨S_, .f32⟩
  | 52 => ⟨S32768x32, .f32⟩
  | 53 => ⟨S_, .i32⟩
  | 54 => ⟨S32768x32, .i32⟩
  | 55 => ⟨S32768x32, .i32⟩
  | 56 => ⟨S32768x32, .f32⟩
  | 57 => ⟨S32768x32, .f32⟩
  | 58 => ⟨S32768x32, .f32⟩
  | 59 => ⟨S_, .f32⟩
  | 60 => ⟨S32768x32, .f32⟩
  | 61 => ⟨S32768x32, .i1⟩
  | 62 => ⟨S_, .f32⟩
  | 63 => ⟨S_, .f32⟩
  | 64 => ⟨S32768x32, .f32⟩
  | 65 => ⟨S32768x32, .f32⟩
  | 66 => ⟨S32768x32, .f32⟩
  | 67 => ⟨S_, .i32⟩
  | 68 => ⟨S32768x32, .i32⟩
  | 69 => ⟨S32768x32, .i1⟩
  | 70 => ⟨S_, .f32⟩
  | 71 => ⟨S32768x32, .f32⟩
  | 72 => ⟨S32768x32, .f32⟩
  | 73 => ⟨S_, .i32⟩
  | 74 => ⟨S32768x32, .i32⟩
  | 75 => ⟨S32768x32, .i1⟩
  | 76 => ⟨S32768x32, .f32⟩
  | 77 => ⟨S32768x32, .f32⟩
  | 78 => ⟨S_, .i32⟩
  | 79 => ⟨S32768x32, .i32⟩
  | 80 => ⟨S32768x32, .i32⟩
  | 81 => ⟨S_, .i32⟩
  | 82 => ⟨S32768x32, .i32⟩
  | 83 => ⟨S32768x32, .i1⟩
  | 84 => ⟨S_, .f32⟩
  | 85 => ⟨S_, .f32⟩
  | 86 => ⟨S32768x32, .f32⟩
  | 87 => ⟨S32768x32, .f32⟩
  | 88 => ⟨S32768x32, .f32⟩
  | 89 => ⟨S32768x32, .f32⟩
  | 90 => ⟨S32768x32, .f32⟩
  | 91 => ⟨S32768x32x1, .f32⟩
  | 92 => ⟨S32768x32x8, .f32⟩
  | 93 => ⟨S32768x32x8, .f32⟩
  | 94 => ⟨S32768x32x8, .f32⟩
  | 95 => ⟨S32768x32x8, .bf16⟩
  | 96 => ⟨S32768x32, .i32⟩
  | 97 => ⟨S_, .i32⟩
  | 98 => ⟨S32768x32, .i32⟩
  | 99 => ⟨S32768x32, .i32⟩
  | 100 => ⟨S_, .i32⟩
  | 101 => ⟨S32768x32, .i32⟩
  | 102 => ⟨S32768x32, .i32⟩
  | 103 => ⟨S_, .i32⟩
  | 104 => ⟨S32768x32, .i32⟩
  | 105 => ⟨S32768x32, .i32⟩
  | 106 => ⟨S32768x32, .f32⟩
  | 107 => ⟨S_, .f32⟩
  | 108 => ⟨S32768x32, .f32⟩
  | 109 => ⟨S32768x32, .f32⟩
  | 110 => ⟨S_, .f32⟩
  | 111 => ⟨S32768x32, .f32⟩
  | 112 => ⟨S_, .i32⟩
  | 113 => ⟨S32768x32, .i32⟩
  | 114 => ⟨S32768x32, .i32⟩
  | 115 => ⟨S32768x32, .f32⟩
  | 116 => ⟨S32768x32, .f32⟩
  | 117 => ⟨S32768x32, .f32⟩
  | 118 => ⟨S_, .f32⟩
  | 119 => ⟨S32768x32, .f32⟩
  | 120 => ⟨S32768x32, .i1⟩
  | 121 => ⟨S_, .f32⟩
  | 122 => ⟨S_, .f32⟩
  | 123 => ⟨S32768x32, .f32⟩
  | 124 => ⟨S32768x32, .f32⟩
  | 125 => ⟨S32768x32, .f32⟩
  | 126 => ⟨S_, .i32⟩
  | 127 => ⟨S32768x32, .i32⟩
  | _ => ⟨S32x1x8192, .bf16⟩

abbrev hbmTy0_1 (i : Nat) : BufTy := match i % 128 with
  | 0 => ⟨S32768x32, .i1⟩
  | 1 => ⟨S_, .f32⟩
  | 2 => ⟨S32768x32, .f32⟩
  | 3 => ⟨S32768x32, .f32⟩
  | 4 => ⟨S_, .i32⟩
  | 5 => ⟨S32768x32, .i32⟩
  | 6 => ⟨S32768x32, .i1⟩
  | 7 => ⟨S32768x32, .f32⟩
  | 8 => ⟨S32768x32, .f32⟩
  | 9 => ⟨S_, .i32⟩
  | 10 => ⟨S32768x32, .i32⟩
  | 11 => ⟨S32768x32, .i32⟩
  | 12 => ⟨S_, .i32⟩
  | 13 => ⟨S32768x32, .i32⟩
  | 14 => ⟨S32768x32, .i1⟩
  | 15 => ⟨S_, .f32⟩
  | 16 => ⟨S_, .f32⟩
  | 17 => ⟨S32768x32, .f32⟩
  | 18 => ⟨S32768x32, .f32⟩
  | 19 => ⟨S32768x32, .f32⟩
  | 20 => ⟨S32768x32, .f32⟩
  | 21 => ⟨S32768x32, .f32⟩
  | 22 => ⟨S32768x32x1, .f32⟩
  | 23 => ⟨S32768x32x8, .f32⟩
  | 24 => ⟨S32768x32x8, .f32⟩
  | 25 => ⟨S32768x32x8, .f32⟩
  | 26 => ⟨S32768x32x8, .bf16⟩
  | 27 => ⟨S32768x128x2, .bf16⟩
  | 28 => ⟨S32768x128x2, .bf16⟩
  | 29 => ⟨S32768x4096, .i32⟩
  | 30 => ⟨S32768x128x32, .i32⟩
  | 31 => ⟨S_, .i32⟩
  | 32 => ⟨S32768x128x32, .i32⟩
  | 33 => ⟨S32768x128x32, .i32⟩
  | 34 => ⟨S32768x128x32, .bf16⟩
  | 35 => ⟨S_, .i32⟩
  | 36 => ⟨S32768x128x32, .i32⟩
  | 37 => ⟨S32768x128x32, .i32⟩
  | 38 => ⟨S32768x128x32, .bf16⟩
  | 39 => ⟨S32768x128x1, .bf16⟩
  | 40 => ⟨S32768x128x32, .bf16⟩
  | 41 => ⟨S32768x128x32, .bf16⟩
  | 42 => ⟨S32768x128x1, .bf16⟩
  | 43 => ⟨S32768x128x32, .bf16⟩
  | 44 => ⟨S32768x128x32, .bf16⟩
  | 45 => ⟨S32768x128x1, .bf16⟩
  | 46 => ⟨S32768x128x32, .bf16⟩
  | 47 => ⟨S32768x128x32, .bf16⟩
  | 48 => ⟨S32768x128x1, .bf16⟩
  | 49 => ⟨S32768x128x32, .bf16⟩
  | 50 => ⟨S32768x128x32, .bf16⟩
  | 51 => ⟨S32x1x128x2x32, .bf16⟩
  | 52 => ⟨S32x1x128x1x32, .bf16⟩
  | 53 => ⟨S32x1x128x32, .bf16⟩
  | 54 => ⟨S32x1x32768, .f32⟩
  | 55 => ⟨S32x1x128x1x32, .bf16⟩
  | 56 => ⟨S32x1x128x32, .bf16⟩
  | 57 => ⟨S32x1x32768, .f32⟩
  | 58 => ⟨S32x1x32768, .f32⟩
  | 59 => ⟨S32x1x32768, .bf16⟩
  | 60 => ⟨S32x32768, .bf16⟩
  | _ => ⟨S32x1x8192, .bf16⟩

abbrev hbmTy (i : Nat) : BufTy := match i / 128 with
  | 0 => hbmTy0_0 i
  | 1 => hbmTy0_1 i
  | _ => ⟨S32x1x8192, .bf16⟩

abbrev bufTy : (tb : Table) → Fin (tcTables nBuf tb) → BufTy
  | .hbm, ⟨i, _⟩ => hbmTy i
  | _, _ => ⟨S32x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_c_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_v25 : Ref sig .tc := ⟨.hbm, 39, rfl⟩
abbrev main_v26 : Ref sig .tc := ⟨.hbm, 40, rfl⟩
abbrev main_c_8 : Ref sig .tc := ⟨.hbm, 41, rfl⟩
abbrev main_v27 : Ref sig .tc := ⟨.hbm, 42, rfl⟩
abbrev main_v28 : Ref sig .tc := ⟨.hbm, 43, rfl⟩
abbrev main_c_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_c_11 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_12 : Ref sig .tc := ⟨.hbm, 59, rfl⟩
abbrev main_v40 : Ref sig .tc := ⟨.hbm, 60, rfl⟩
abbrev main_v41 : Ref sig .tc := ⟨.hbm, 61, rfl⟩
abbrev main_cst_13 : Ref sig .tc := ⟨.hbm, 62, rfl⟩
abbrev main_cst_14 : Ref sig .tc := ⟨.hbm, 63, rfl⟩
abbrev main_call0_v0 : Ref sig .tc := ⟨.hbm, 64, rfl⟩
abbrev main_call0_v1 : Ref sig .tc := ⟨.hbm, 65, rfl⟩
abbrev main_v42 : Ref sig .tc := ⟨.hbm, 66, rfl⟩
abbrev main_c_15 : Ref sig .tc := ⟨.hbm, 67, rfl⟩
abbrev main_v43 : Ref sig .tc := ⟨.hbm, 68, rfl⟩
abbrev main_v44 : Ref sig .tc := ⟨.hbm, 69, rfl⟩
abbrev main_cst_16 : Ref sig .tc := ⟨.hbm, 70, rfl⟩
abbrev main_v45 : Ref sig .tc := ⟨.hbm, 71, rfl⟩
abbrev main_v46 : Ref sig .tc := ⟨.hbm, 72, rfl⟩
abbrev main_c_17 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_18 : Ref sig .tc := ⟨.hbm, 78, rfl⟩
abbrev main_v51 : Ref sig .tc := ⟨.hbm, 79, rfl⟩
abbrev main_v52 : Ref sig .tc := ⟨.hbm, 80, rfl⟩
abbrev main_c_19 : Ref sig .tc := ⟨.hbm, 81, rfl⟩
abbrev main_v53 : Ref sig .tc := ⟨.hbm, 82, rfl⟩
abbrev main_v54 : Ref sig .tc := ⟨.hbm, 83, rfl⟩
abbrev main_cst_20 : Ref sig .tc := ⟨.hbm, 84, rfl⟩
abbrev main_cst_21 : Ref sig .tc := ⟨.hbm, 85, rfl⟩
abbrev main_call3_v0 : Ref sig .tc := ⟨.hbm, 86, rfl⟩
abbrev main_call3_v1 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_22 : Ref sig .tc := ⟨.hbm, 97, rfl⟩
abbrev main_v64 : Ref sig .tc := ⟨.hbm, 98, rfl⟩
abbrev main_v65 : Ref sig .tc := ⟨.hbm, 99, rfl⟩
abbrev main_c_23 : Ref sig .tc := ⟨.hbm, 100, rfl⟩
abbrev main_v66 : Ref sig .tc := ⟨.hbm, 101, rfl⟩
abbrev main_v67 : Ref sig .tc := ⟨.hbm, 102, rfl⟩
abbrev main_c_24 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_25 : Ref sig .tc := ⟨.hbm, 107, rfl⟩
abbrev main_v71 : Ref sig .tc := ⟨.hbm, 108, rfl⟩
abbrev main_v72 : Ref sig .tc := ⟨.hbm, 109, rfl⟩
abbrev main_cst_26 : Ref sig .tc := ⟨.hbm, 110, rfl⟩
abbrev main_v73 : Ref sig .tc := ⟨.hbm, 111, rfl⟩
abbrev main_c_27 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_28 : Ref sig .tc := ⟨.hbm, 118, rfl⟩
abbrev main_v79 : Ref sig .tc := ⟨.hbm, 119, rfl⟩
abbrev main_v80 : Ref sig .tc := ⟨.hbm, 120, rfl⟩
abbrev main_cst_29 : Ref sig .tc := ⟨.hbm, 121, rfl⟩
abbrev main_cst_30 : Ref sig .tc := ⟨.hbm, 122, rfl⟩
abbrev main_call4_v0 : Ref sig .tc := ⟨.hbm, 123, rfl⟩
abbrev main_call4_v1 : Ref sig .tc := ⟨.hbm, 124, rfl⟩
abbrev main_v81 : Ref sig .tc := ⟨.hbm, 125, rfl⟩
abbrev main_c_31 : Ref sig .tc := ⟨.hbm, 126, rfl⟩
abbrev main_v82 : Ref sig .tc := ⟨.hbm, 127, rfl⟩
abbrev main_v83 : Ref sig .tc := ⟨.hbm, 128, rfl⟩
abbrev main_cst_32 : Ref sig .tc := ⟨.hbm, 129, rfl⟩
abbrev main_v84 : Ref sig .tc := ⟨.hbm, 130, rfl⟩
abbrev main_v85 : Ref sig .tc := ⟨.hbm, 131, rfl⟩
abbrev main_c_33 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_c_34 : Ref sig .tc := ⟨.hbm, 137, rfl⟩
abbrev main_v90 : Ref sig .tc := ⟨.hbm, 138, rfl⟩
abbrev main_v91 : Ref sig .tc := ⟨.hbm, 139, rfl⟩
abbrev main_c_35 : Ref sig .tc := ⟨.hbm, 140, rfl⟩
abbrev main_v92 : Ref sig .tc := ⟨.hbm, 141, rfl⟩
abbrev main_v93 : Ref sig .tc := ⟨.hbm, 142, rfl⟩
abbrev main_cst_36 : Ref sig .tc := ⟨.hbm, 143, rfl⟩
abbrev main_cst_37 : Ref sig .tc := ⟨.hbm, 144, rfl⟩
abbrev main_call7_v0 : Ref sig .tc := ⟨.hbm, 145, rfl⟩
abbrev main_call7_v1 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_c_38 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_c_39 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩

abbrev nD : Nat := 1
abbrev τ : Topo := Topo.v7x

variable {F : FTy → Type} [FloatOps F]
-- ==== Proof.Claims.lean ====
/- The three frames and the `preserves` claim (hand-written, untrusted). -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Bf16PairInverse
public import Idealize.ShloMosaic.Lib.Quiescent

@[expose] public section

noncomputable section

open Idealize.ShloMosaic Idealize.SL.Sem

namespace Cert.Proof.Claims

/-- The kernel as printed runs to the end with its arguments unchanged. -/
theorem frame_kernel : Cert.quiescent_Kernel := fun m ρ _ => Cert.Kernel.Gen.frame m ρ

/-- So does its idealized form. -/
theorem frame_kernelIdeal : Cert.quiescent_KernelIdeal := fun m ρ _ => Cert.KernelIdeal.Gen.frame m ρ

/-- The idealized reference is host operations only: its run, with the result forgotten. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The ledger's statements: the scratches' words held as pairs, the pack of two rounded halves, a row of words stored,
    a row of words loaded, and words read as twice as many rows. -/
theorem preserves : Cert.preserves_Kernel_KernelIdeal :=
  open Cert.KernelIdeal IdealRules.bf16_pair in
  ⟨bufferStatement S4x32x2x512 S4x32x1x512, packStatement S32x512, statement S1x32x2x512 S1x32x1x512,
    statement S1x1x2x128 S1x1x1x128, statement S16x128 S8x128⟩

end Cert.Proof.Claims

end
-- ==== Proof.Weights.lean ====
/- The dequantized weights of one trip, read at an index (hand-written, untrusted): the nibbles' rows, the scale and
   offset rows repeated down them, the four groups laid one above the other, and the trip's product. -/
module

public import proofs.«01_k».proof.Proof.Gen.KernelIdeal.Skeleton
public import Idealize.ShloMosaic.Lib.ValueIdx
public import Idealize.ShloMosaic.Lib.ValueIdxCoords
public import Idealize.ShloMosaic.Lib.ValueLayout
public import Idealize.ShloMosaic.Lib.MatmulPlain
public import Idealize.ShloMosaic.Lib.Bf16Pair
public import Idealize.ShloMosaic.Lib.Pipeline.Value

@[expose] public section

set_option maxRecDepth 16384

noncomputable section

namespace Cert.KernelIdeal.Weights

open Cert.KernelIdeal Cert.KernelIdeal.Gen Idealize.ShloMosaic Idealize.ShloMosaic.ValueIdx
open scoped BigOperators

/-- One row of parity pairs, as a load of a scratch hands it over: a scale (or offset) per parity and lane. -/
abbrev Row := Vec Ideal S1x1x2x128 .bf16

/-- Row `p` of the pair, eight times. -/
def rep (p : Fin 2) (raw : Row) : FVec Ideal S8x128 .bf16 :=
  have v : FVec Ideal S1x128 .bf16 := shapeCast S1x128 (shapeCast S1x1x128 (rowsOfParity p S1x1x1x128 raw bitcasts_S1x1x2x128_w16_S1x1x1x128_w32) shapeCasts_S1x1x1x128_S1x1x128) shapeCasts_S1x1x128_S1x128
  concatenate S8x128 0 [⟨S1x128, v⟩, ⟨S1x128, v⟩, ⟨S1x128, v⟩, ⟨S1x128, v⟩, ⟨S1x128, v⟩, ⟨S1x128, v⟩, ⟨S1x128, v⟩, ⟨S1x128, v⟩] concatenates_S1x128_S1x128_S1x128_S1x128_S1x128_S1x128_S1x128_S1x128_S8x128_d0

/-- The pair's rows alternating down sixteen rows. -/
def row16 (raw : Row) : FVec Ideal S1x16x128 .bf16 :=
  shapeCast S1x16x128 (interleaveRows S16x128 (rep 0 raw) (rep 1 raw) bitcasts_S16x128_w16_S8x128_w32) shapeCasts_S16x128_S1x16x128

/-- The same under four blocks of sixteen rows. -/
def row64 (raw : Row) : FVec Ideal S4x16x128 .bf16 := broadcastTo S4x16x128 (row16 raw) broadcasts_S1x16x128_S4x16x128

/-- One group of sixty-four rows: the codes times the scale less the offset. -/
def group (off : Fin 2 → ℕ) (h : S256x128.Slices off S64x128) (q : FVec Ideal S256x128 .bf16) (s o : Row) : FVec Ideal S64x128 .bf16 :=
  shapeCast S64x128 (subf (mulf (shapeCast S4x16x128 (extractStridedSlice S64x128 off q h) shapeCasts_S64x128_S4x16x128) (row64 s)) (row64 o)) shapeCasts_S4x16x128_S64x128

/-- The four groups of a super-block … -/
abbrev groups (q : Vec Ideal S128x128 .i8) (s o : Fin 4 → Row) : List ((t : Shape) × (t.Idx → Ideal .bf16)) :=
  [⟨S64x128, group ![0, 0] slices_S256x128_o0_0_S64x128 (k0_pay3 q) (s 0) (o 0)⟩,
    ⟨S64x128, group ![64, 0] slices_S256x128_o64_0_S64x128 (k0_pay3 q) (s 1) (o 1)⟩,
    ⟨S64x128, group ![128, 0] slices_S256x128_o128_0_S64x128 (k0_pay3 q) (s 2) (o 2)⟩,
    ⟨S64x128, group ![192, 0] slices_S256x128_o192_0_S64x128 (k0_pay3 q) (s 3) (o 3)⟩]

/-- … and the four one above the other. -/
def weights (q : Vec Ideal S128x128 .i8) (s o : Fin 4 → Row) : FVec Ideal S256x128 .bf16 :=
  concatenate S256x128 0 (groups q s o) concatenates_S64x128_S64x128_S64x128_S64x128_S256x128_d0

/-- The two halves of 128 lanes beside each other, multiplied by the activations and added to what is carried. -/
def product (acc : FVec Ideal S32x256 .f32) (w0 w1 : FVec Ideal S256x128 .bf16) (x : Vec Ideal S32x256 .bf16) : FVec Ideal S32x256 .f32 :=
  addf acc (matmul (φ₁ := .bf16) (φ₂ := .bf16) dot_S32x256_S256x256_S32x256_1_0_0_1_n_n none
    (show FVec Ideal S32x256 .bf16 from shapeCast S32x256 x shapeCasts_S32x256_S32x256)
    (concatenate S256x256 1 [⟨S256x128, w0⟩, ⟨S256x128, w1⟩] concatenates_S256x128_S256x128_S256x256_d1) (constant S32x256 .f32 0x00000000#32))

/-- The first loop's payloads are these. -/
theorem trip_payload (acc : FVec Ideal S32x256 .f32) (q0 q1 : Vec Ideal S128x128 .i8) (s0 s1 s2 s3 o0 o1 o2 o3 t0 t1 t2 t3 u0 u1 u2 u3 : Row)
    (x : Vec Ideal S32x256 .bf16) :
    k0_pay19 acc (k0_pay12 (k0_pay4 q0 s0 o0) (k0_pay8 (k0_pay5 q0) (k0_pay6 s1) (k0_pay7 s1) o1) (k0_pay9 (k0_pay3 q0) s2 o2)
        (k0_pay10 (k0_pay3 q0)) s3 (k0_pay11 s3) o3) (k0_pay13 q1) (k0_pay15 (k0_pay14 q1 t0) u0) (k0_pay16 (k0_pay13 q1) t1 u1)
        (k0_pay17 (k0_pay13 q1)) (k0_pay18 t2) u2 t3 u3 x
      = product acc (weights q0 ![s0, s1, s2, s3] ![o0, o1, o2, o3]) (weights q1 ![t0, t1, t2, t3] ![u0, u1, u2, u3]) x := rfl

/-- … and so are the second loop's. -/
theorem trip_payload' (acc : FVec Ideal S32x256 .f32) (q0 q1 : Vec Ideal S128x128 .i8) (s0 s1 s2 s3 o0 o1 o2 o3 t0 t1 t2 t3 u0 u1 u2 u3 : Row)
    (x : Vec Ideal S32x256 .bf16) :
    k0_pay36 acc (k0_pay29 (k0_pay21 q0 s0 o0) (k0_pay25 (k0_pay22 q0) (k0_pay23 s1) (k0_pay24 s1) o1) (k0_pay26 (k0_pay20 q0) s2 o2)
        (k0_pay27 (k0_pay20 q0)) s3 (k0_pay28 s3) o3) (k0_pay30 q1) (k0_pay32 (k0_pay31 q1 t0) u0) (k0_pay33 (k0_pay30 q1) t1 u1)
        (k0_pay34 (k0_pay30 q1)) (k0_pay35 t2) u2 t3 u3 x
      = product acc (weights q0 ![s0, s1, s2, s3] ![o0, o1, o2, o3]) (weights q1 ![t0, t1, t2, t3] ![u0, u1, u2, u3]) x := rfl

/-! ## Read at an index -/

/-- The two nibbles of a byte as the kernel takes them: the low under a mask, the high by a shift. -/
def nibble (b : BitVec 8) (e : Fin 2) : BitVec 32 :=
  if e.val = 0 then IntOp.andi (b.setWidth 32) 15#32 else IntOp.shrsi .vector (b.setWidth 32) 4#32

/-- The parity of a row. -/
abbrev par (r : ℕ) : Fin 2 := ⟨r % 2, Nat.mod_lt _ (by decide)⟩

theorem codes_apply (q : Vec Ideal S128x128 .i8) (r : Fin 256) (l : Fin 128) :
    k0_pay3 q (ix2 r l) = FloatOps.sitofp (F := Ideal) .bf16 (nibble (q (ix2 l ⟨r.val / 2, by omega⟩)) (par r.val)) := by
  unfold k0_pay3
  dsimp only
  rw [sitofp_apply]
  refine congrArg _ ?_
  rw [shapeCast_apply _ _ _ (ix3 (⟨r.val / 2, by omega⟩ : Fin 128) (par r.val) l) (by
    rw [Shape.rowMajor_val_three, Shape.rowMajor_val_two]
    show (r.val / 2 * 2 + r.val % 2) * 128 + l.val = r.val * 128 + l.val
    omega)]
  by_cases h : r.val % 2 = 0
  · rw [concatenate_pair_apply_left (s₁ := S128x1x128) (s₂ := S128x1x128) (t := S128x2x128) 1 _ _ _ (ix3 (⟨r.val / 2, by omega⟩ : Fin 128) (par r.val) l) rfl (ix3 (⟨r.val / 2, by omega⟩ : Fin 128) (0 : Fin 1) l) (fun b => match b with
      | ⟨0, _⟩ => rfl | ⟨1, _⟩ => h.symm | ⟨2, _⟩ => rfl)]
    rw [shapeCast_apply _ _ _ (ix2 (⟨r.val / 2, by omega⟩ : Fin 128) l) (by
      rw [Shape.rowMajor_val_three, Shape.rowMajor_val_two]
      show r.val / 2 * 128 + l.val = (r.val / 2 * 1 + 0) * 128 + l.val
      omega)]
    simp only [nibble, par, h, if_true]
    show IntOp.andi ((transpose S128x128 [1, 0] q transposes_S128x128_p1_0_S128x128 (ix2 (⟨r.val / 2, by omega⟩ : Fin 128) l)).setWidth 32) 15#32 = _
    rw [transpose_ix2_apply]
  · have h1 : r.val % 2 = 1 := by omega
    rw [concatenate_pair_apply_right (s₁ := S128x1x128) (s₂ := S128x1x128) (t := S128x2x128) 1 _ _ _ (ix3 (⟨r.val / 2, by omega⟩ : Fin 128) (par r.val) l) rfl rfl (ix3 (⟨r.val / 2, by omega⟩ : Fin 128) (0 : Fin 1) l) (fun b => match b with
      | ⟨0, _⟩ => fun _ => rfl | ⟨1, _⟩ => fun hb => absurd rfl hb | ⟨2, _⟩ => fun _ => rfl) (by show 0 + 1 = r.val % 2; omega)]
    rw [shapeCast_apply _ _ _ (ix2 (⟨r.val / 2, by omega⟩ : Fin 128) l) (by
      rw [Shape.rowMajor_val_three, Shape.rowMajor_val_two]
      show r.val / 2 * 128 + l.val = (r.val / 2 * 1 + 0) * 128 + l.val
      omega)]
    simp only [nibble, par, h, if_false]
    show IntOp.shrsi .vector ((transpose S128x128 [1, 0] q transposes_S128x128_p1_0_S128x128 (ix2 (⟨r.val / 2, by omega⟩ : Fin 128) l)).setWidth 32) 4#32 = _
    rw [transpose_ix2_apply]

theorem rep_apply (p : Fin 2) (raw : Row) (r : Fin 8) (l : Fin 128) :
    rep p raw (ix2 r l) = raw (ix4 (0 : Fin 1) (0 : Fin 1) p l) := by
  unfold rep
  refine (concatenate_replicate_apply (t := S8x128) (s₁ := S1x128) 0 8 _ concatenates_S1x128_S1x128_S1x128_S1x128_S1x128_S1x128_S1x128_S1x128_S8x128_d0 rfl
    (ix2 r l) (ix2 (0 : Fin 1) l) (by show 0 = r.val % 1; omega) (fun b => match b with
      | ⟨0, _⟩ => fun hb => absurd rfl hb | ⟨1, _⟩ => fun _ => rfl)).trans ?_
  rw [shapeCast_1ab_ab_apply, shapeCast_1abc_abc_apply]
  unfold rowsOfParity
  refine congrArg raw (funext fun a => ?_)
  match a with
  | ⟨0, _⟩ => rfl
  | ⟨1, _⟩ => rfl
  | ⟨2, _⟩ => exact Fin.ext (by show 2 * 0 + p.val = p.val; omega)
  | ⟨3, _⟩ => rfl

theorem row64_apply (raw : Row) (a : Fin 4) (p : Fin 16) (l : Fin 128) :
    row64 raw (ix3 a p l) = raw (ix4 (0 : Fin 1) (0 : Fin 1) (par p.val) l) := by
  unfold row64 row16
  rw [broadcastTo_apply _ _ _ (ix3 (0 : Fin 1) p l) (fun b => match b with | ⟨0, _⟩ => rfl | ⟨1, _⟩ => rfl | ⟨2, _⟩ => rfl)]
  rw [shapeCast_ab_1ab_apply]
  unfold interleaveRows
  dsimp only
  have hj : ∀ j : S8x128.Idx, ∀ e : Fin 2, rep e raw j = raw (ix4 (0 : Fin 1) (0 : Fin 1) e (j 1)) := fun j e => by
    rw [eq_ix2 j]; exact rep_apply e raw _ _
  rw [hj, hj]
  have hrow : S16x128.row (ix2 p l) = p.val := rfl
  rw [hrow]
  by_cases h : p.val % 2 = 0
  · rw [if_pos h]
    refine congrArg raw (funext fun a => ?_)
    match a with
    | ⟨0, _⟩ => rfl
    | ⟨1, _⟩ => rfl
    | ⟨2, _⟩ => exact Fin.ext h.symm
    | ⟨3, _⟩ => rfl
  · rw [if_neg h]
    refine congrArg raw (funext fun a => ?_)
    match a with
    | ⟨0, _⟩ => rfl
    | ⟨1, _⟩ => rfl
    | ⟨2, _⟩ => exact Fin.ext (by show 1 = p.val % 2; omega)
    | ⟨3, _⟩ => rfl

theorem group_apply (off : ℕ) (h : S256x128.Slices ![off, 0] S64x128) (q : FVec Ideal S256x128 .bf16) (s o : Row)
    (r : Fin 64) (l : Fin 128) (i : Fin 256) (hi : i.val = off + r.val) :
    group ![off, 0] h q s o (ix2 r l)
      = q (ix2 i l) * s (ix4 (0 : Fin 1) (0 : Fin 1) (par r.val) l) - o (ix4 (0 : Fin 1) (0 : Fin 1) (par r.val) l) := by
  have hp : par (r.val % 16) = par r.val := Fin.ext (by show r.val % 16 % 2 = r.val % 2; omega)
  unfold group
  rw [shapeCast_apply _ _ _ (ix3 (⟨r.val / 16, by omega⟩ : Fin 4) (⟨r.val % 16, by omega⟩ : Fin 16) l) (by
    rw [Shape.rowMajor_val_three, Shape.rowMajor_val_two]
    show (r.val / 16 * 16 + r.val % 16) * 128 + l.val = r.val * 128 + l.val
    omega)]
  rw [subf_apply, mulf_apply, row64_apply, row64_apply]
  rw [shapeCast_apply _ _ _ (ix2 r l) (by
    rw [Shape.rowMajor_val_three, Shape.rowMajor_val_two]
    show r.val * 128 + l.val = (r.val / 16 * 16 + r.val % 16) * 128 + l.val
    omega)]
  rw [extractStridedSlice_apply _ _ _ _ (ix2 i l) (fun a => match a with
    | ⟨0, _⟩ => hi | ⟨1, _⟩ => (Nat.zero_add _).symm)]
  show _ * s (ix4 (0 : Fin 1) (0 : Fin 1) (par (r.val % 16)) l) - o (ix4 (0 : Fin 1) (0 : Fin 1) (par (r.val % 16)) l) = _
  rw [hp]

/-- A weight: the nibble of the packed byte times the group's scale of its parity, less the offset. -/
def weight (b : BitVec 8) (e : Fin 2) (s o : EReal) : EReal := FloatOps.sitofp (F := Ideal) .bf16 (nibble b e) * s - o

theorem weights_apply (q : Vec Ideal S128x128 .i8) (s o : Fin 4 → Row) (r : Fin 256) (l : Fin 128) :
    weights q s o (ix2 r l)
      = weight (q (ix2 l ⟨r.val / 2, by omega⟩)) (par r.val) (s ⟨r.val / 64, by omega⟩ (ix4 (0 : Fin 1) (0 : Fin 1) (par r.val) l))
          (o ⟨r.val / 64, by omega⟩ (ix4 (0 : Fin 1) (0 : Fin 1) (par r.val) l)) := by
  have hp : par (r.val % 64) = par r.val := Fin.ext (by show r.val % 64 % 2 = r.val % 2; omega)
  have piece : ∀ (k : ℕ) (hk : k < 4) (x₁ : FVec Ideal S64x128 .bf16),
      (groups q s o)[k]'hk = ⟨S64x128, x₁⟩ →
      r.val / 64 = k → weights q s o (ix2 r l) = x₁ (ix2 (⟨r.val % 64, by omega⟩ : Fin 64) l) := by
    intro k hk x₁ hx hr
    unfold weights
    refine concatenate_apply_piece (t := S256x128) 0 (groups q s o) concatenates_S64x128_S64x128_S64x128_S64x128_S256x128_d0 (ix2 r l) k hk S64x128 x₁ hx rfl (64 * k) ?_ _ (fun b => match b with
      | ⟨0, _⟩ => fun hb => absurd rfl hb | ⟨1, _⟩ => fun _ => rfl) (by show 64 * k + r.val % 64 = r.val; omega)
    interval_cases k <;> rfl
  have hc : r.val / 64 = 0 ∨ r.val / 64 = 1 ∨ r.val / 64 = 2 ∨ r.val / 64 = 3 := by omega
  rcases hc with h | h | h | h
  · rw [piece 0 (by decide) _ rfl h, group_apply 0 _ _ _ _ _ _ r (by show r.val = 0 + r.val % 64; omega), codes_apply]
    simp only [hp, h]; rfl
  · rw [piece 1 (by decide) _ rfl h, group_apply 64 _ _ _ _ _ _ r (by show r.val = 64 + r.val % 64; omega), codes_apply]
    simp only [hp, h]; rfl
  · rw [piece 2 (by decide) _ rfl h, group_apply 128 _ _ _ _ _ _ r (by show r.val = 128 + r.val % 64; omega), codes_apply]
    simp only [hp, h]; rfl
  · rw [piece 3 (by decide) _ rfl h, group_apply 192 _ _ _ _ _ _ r (by show r.val = 192 + r.val % 64; omega), codes_apply]
    simp only [hp, h]; rfl

/-- The carried value after a trip: the sum over the super-block's rows, added. -/
theorem product_apply (acc : FVec Ideal S32x256 .f32) (w0 w1 : FVec Ideal S256x128 .bf16) (x : Vec Ideal S32x256 .bf16) (b : Fin 32) (n : Fin 256)
    (h : Fin 2) (l : Fin 128) (hn : n.val = 128 * h.val + l.val) :
    product acc w0 w1 x (ix2 b n) = acc (ix2 b n) + ∑ r : Fin 256, (x (ix2 b r) * (if h.val = 0 then w0 else w1) (ix2 r l) : EReal) := by
  unfold product
  rw [addf_apply]
  refine congrArg (acc (ix2 b n) + ·) ?_
  refine (Ideal.matmul_plain_apply (M := 32) (K := 256) (N := 256) none _ _ _ b n).trans ?_
  have h0 : (constant (F := Ideal) S32x256 .f32 0x00000000#32) (ix2 b n) = 0 := by
    rw [constant_apply]; simp [Ideal.ofBits, Ideal.ieee]
  rw [h0, zero_add]
  refine Finset.sum_congr rfl fun r _ => ?_
  rw [shapeCast_self]
  refine congrArg (x (ix2 b r) * ·) ?_
  obtain ⟨hv, hlt⟩ := h
  have hc : hv = 0 ∨ hv = 1 := by omega
  rcases hc with rfl | rfl
  · rw [if_pos rfl]
    exact concatenate_pair_apply_left (s₁ := S256x128) (s₂ := S256x128) (t := S256x256) 1 _ _ _ _ rfl (ix2 r l) (fun b => match b with
      | ⟨0, _⟩ => rfl | ⟨1, _⟩ => by show l.val = n.val; simp at hn; omega)
  · rw [if_neg (by simp)]
    exact concatenate_pair_apply_right (s₁ := S256x128) (s₂ := S256x128) (t := S256x256) 1 _ _ _ _ rfl rfl (ix2 r l) (fun b => match b with
      | ⟨0, _⟩ => fun _ => rfl | ⟨1, _⟩ => fun hb => absurd rfl hb) (by show l.val + 128 = n.val; simp at hn; omega)

end Cert.KernelIdeal.Weights

end
-- ==== Proof.Trip.lean ====
/- The two loops of the kernel, a trip and then all thirty-two, read at an index (hand-written, untrusted). -/
module

public import proofs.«01_k».proof.Proof.Weights
public import proofs.«01_k».proof.Proof.Gen.KernelIdeal.Loops
public import Idealize.ShloMosaic.Lib.Pipeline.ValueKit.Tiles

@[expose] public section

set_option maxRecDepth 16384

noncomputable section

namespace Cert.KernelIdeal.Trip

open Cert.KernelIdeal Cert.KernelIdeal.Gen Cert.KernelIdeal.Weights Idealize.ShloMosaic Idealize.ShloMosaic.ValueIdx Idealize.SL.Sem
open Idealize.ShloMosaic.TcCoe
open scoped BigOperators

/-- What the super-block `k` adds at a row of the activations and a lane of the block: the sum over its 256 weights. -/
def term (x : S32x8192.Idx → Ideal .bf16) (q : S512x4096.Idx → BitVec 8) (s o : S4x32x2x512.Idx → Ideal .bf16) (b : Fin 32) (n : Fin 512) (k : Fin 32) : EReal :=
  ∑ r : Fin 256, ((x (ix2 b (⟨256 * k.val + r.val, by omega⟩ : Fin 8192)) : EReal)
    * weight (q (ix2 n (⟨128 * k.val + r.val / 2, by omega⟩ : Fin 4096))) (par r.val)
        (s (ix4 (⟨r.val / 64, by omega⟩ : Fin 4) k (par r.val) n)) (o (ix4 (⟨r.val / 64, by omega⟩ : Fin 4) k (par r.val) n)))

/-- Four loads of a scratch, one for each of its leading rows, read at a lane. -/
theorem rows_apply (S : S4x32x2x512.Idx → Ideal .bf16) (o0 o1 o2 o3 : Fin 4 → ℕ) (i0 i1 i2 i3) (k : Fin 32) (c : ℕ)
    (h0 : o0 = ![0, k.val, 0, c]) (h1 : o1 = ![1, k.val, 0, c]) (h2 : o2 = ![2, k.val, 0, c]) (h3 : o3 = ![3, k.val, 0, c])
    (m : Fin 4) (p : Fin 2) (l : Fin 128) (n : Fin 512) (hn : n.val = c + l.val) :
    (![View.ld (Val := Elt Ideal) (e' := .bf16) S (Rect.unit (s := S4x32x2x512) o0 S1x1x2x128.size i0), View.ld (Val := Elt Ideal) (e' := .bf16) S (Rect.unit (s := S4x32x2x512) o1 S1x1x2x128.size i1),
        View.ld (Val := Elt Ideal) (e' := .bf16) S (Rect.unit (s := S4x32x2x512) o2 S1x1x2x128.size i2), View.ld (Val := Elt Ideal) (e' := .bf16) S (Rect.unit (s := S4x32x2x512) o3 S1x1x2x128.size i3)] : Fin 4 → Row) m
      (ix4 (0 : Fin 1) (0 : Fin 1) p l) = S (ix4 m k p n) := by
  subst h0 h1 h2 h3
  match m with
  | ⟨0, _⟩ => exact View.ld_unit_apply_of (Val := Elt Ideal) (e := .bf16) S _ _ _ (ix4 (0 : Fin 1) (0 : Fin 1) p l) _ (fun a => match a with
      | ⟨0, _⟩ => rfl | ⟨1, _⟩ => rfl | ⟨2, _⟩ => (Nat.zero_add _).symm | ⟨3, _⟩ => hn)
  | ⟨1, _⟩ => exact View.ld_unit_apply_of (Val := Elt Ideal) (e := .bf16) S _ _ _ (ix4 (0 : Fin 1) (0 : Fin 1) p l) _ (fun a => match a with
      | ⟨0, _⟩ => rfl | ⟨1, _⟩ => rfl | ⟨2, _⟩ => (Nat.zero_add _).symm | ⟨3, _⟩ => hn)
  | ⟨2, _⟩ => exact View.ld_unit_apply_of (Val := Elt Ideal) (e := .bf16) S _ _ _ (ix4 (0 : Fin 1) (0 : Fin 1) p l) _ (fun a => match a with
      | ⟨0, _⟩ => rfl | ⟨1, _⟩ => rfl | ⟨2, _⟩ => (Nat.zero_add _).symm | ⟨3, _⟩ => hn)
  | ⟨3, _⟩ => exact View.ld_unit_apply_of (Val := Elt Ideal) (e := .bf16) S _ _ _ (ix4 (0 : Fin 1) (0 : Fin 1) p l) _ (fun a => match a with
      | ⟨0, _⟩ => rfl | ⟨1, _⟩ => rfl | ⟨2, _⟩ => (Nat.zero_add _).symm | ⟨3, _⟩ => hn)

/-- A load of the packed bytes, read at a lane and a byte. -/
theorem bytes_apply (q : S512x4096.Idx → BitVec 8) (off : Fin 2 → ℕ) (inb) (k : Fin 32) (c : ℕ) (h : off = ![c, 128 * k.val])
    (l : Fin 128) (j : Fin 128) (n : Fin 512) (hn : n.val = c + l.val) (i : Fin 4096) (hi : i.val = 128 * k.val + j.val) :
    View.ld (Val := Elt Ideal) (e' := .i8) q (Rect.unit (s := S512x4096) off S128x128.size inb) (ix2 l j) = q (ix2 n i) := by
  subst h
  exact View.ld_unit_apply_of (Val := Elt Ideal) (e := .i8) q _ _ _ (ix2 l j) _ (fun a => match a with | ⟨0, _⟩ => hn | ⟨1, _⟩ => hi)

/-- A load of the activations, read at a row and a column. -/
theorem acts_apply (x : S32x8192.Idx → Ideal .bf16) (off : Fin 2 → ℕ) (inb) (k : Fin 32) (h : off = ![0, 256 * k.val])
    (b : Fin 32) (r : Fin 256) (i : Fin 8192) (hi : i.val = 256 * k.val + r.val) :
    View.ld (Val := Elt Ideal) (e' := .bf16) x (Rect.unit (s := S32x8192) off S32x256.size inb) (ix2 b r) = x (ix2 b i) := by
  subst h
  exact View.ld_unit_apply_of (Val := Elt Ideal) (e := .bf16) x _ _ _ (ix2 b r) _ (fun a => match a with | ⟨0, _⟩ => (Nat.zero_add _).symm | ⟨1, _⟩ => hi)

/-- A trip's product over its loads, whatever the half of the block. -/
theorem product_term (x : S32x8192.Idx → Ideal .bf16) (q : S512x4096.Idx → BitVec 8) (s o : S4x32x2x512.Idx → Ideal .bf16)
    (acc : FVec Ideal S32x256 .f32) (q0 q1 : Vec Ideal S128x128 .i8) (s0 s1 o0 o1 : Fin 4 → Row) (xx : Vec Ideal S32x256 .bf16)
    (k : Fin 32) (c : ℕ) (hc : c ≤ 256)
    (hx : ∀ (b : Fin 32) (r : Fin 256) (i : Fin 8192), i.val = 256 * k.val + r.val → xx (ix2 b r) = x (ix2 b i))
    (hq0 : ∀ (l j : Fin 128) (n : Fin 512) (i : Fin 4096), n.val = c + l.val → i.val = 128 * k.val + j.val → q0 (ix2 l j) = q (ix2 n i))
    (hq1 : ∀ (l j : Fin 128) (n : Fin 512) (i : Fin 4096), n.val = c + 128 + l.val → i.val = 128 * k.val + j.val → q1 (ix2 l j) = q (ix2 n i))
    (hs0 : ∀ (m : Fin 4) (p : Fin 2) (l : Fin 128) (n : Fin 512), n.val = c + l.val → s0 m (ix4 (0 : Fin 1) (0 : Fin 1) p l) = s (ix4 m k p n))
    (hs1 : ∀ (m : Fin 4) (p : Fin 2) (l : Fin 128) (n : Fin 512), n.val = c + 128 + l.val → s1 m (ix4 (0 : Fin 1) (0 : Fin 1) p l) = s (ix4 m k p n))
    (ho0 : ∀ (m : Fin 4) (p : Fin 2) (l : Fin 128) (n : Fin 512), n.val = c + l.val → o0 m (ix4 (0 : Fin 1) (0 : Fin 1) p l) = o (ix4 m k p n))
    (ho1 : ∀ (m : Fin 4) (p : Fin 2) (l : Fin 128) (n : Fin 512), n.val = c + 128 + l.val → o1 m (ix4 (0 : Fin 1) (0 : Fin 1) p l) = o (ix4 m k p n))
    (b : Fin 32) (n' : Fin 256) (n : Fin 512) (hn : n.val = c + n'.val) :
    product acc (weights q0 s0 o0) (weights q1 s1 o1) xx (ix2 b n') = acc (ix2 b n') + term x q s o b n k := by
  by_cases h : n'.val < 128
  · rw [product_apply acc _ _ xx b n' 0 ⟨n'.val, h⟩ (by show n'.val = 128 * 0 + n'.val; omega)]
    refine congrArg (acc (ix2 b n') + ·) (Finset.sum_congr rfl fun r _ => ?_)
    rw [if_pos (show (0 : Fin 2).val = 0 from rfl), weights_apply]
    rw [hx b r ⟨256 * k.val + r.val, by omega⟩ rfl, hq0 _ _ n ⟨128 * k.val + r.val / 2, by omega⟩ hn rfl, hs0 _ _ _ n hn, ho0 _ _ _ n hn]
  · rw [product_apply acc _ _ xx b n' 1 ⟨n'.val - 128, by omega⟩ (by show n'.val = 128 * 1 + (n'.val - 128); omega)]
    refine congrArg (acc (ix2 b n') + ·) (Finset.sum_congr rfl fun r _ => ?_)
    have hn1 : n.val = c + 128 + (⟨n'.val - 128, by omega⟩ : Fin 128).val := by show n.val = c + 128 + (n'.val - 128); omega
    rw [if_neg (show ¬ (1 : Fin 2).val = 0 by decide), weights_apply]
    rw [hx b r ⟨256 * k.val + r.val, by omega⟩ rfl, hq1 _ _ n ⟨128 * k.val + r.val / 2, by omega⟩ hn1 rfl, hs1 _ _ _ n hn1, ho1 _ _ _ n hn1]

theorem trips1 : k0_t1_loop.trips = 32 := by decide +kernel
theorem trips2 : k0_t2_loop.trips = 32 := by decide +kernel

theorem off1_eq : ∀ k : Fin k0_t1_loop.trips, k0_off1 k = ![0, 128 * k.val] := by decide +kernel
theorem off2_eq : ∀ k : Fin k0_t1_loop.trips, k0_off2 k = ![0, k.val, 0, 0] := by decide +kernel
theorem off3_eq : ∀ k : Fin k0_t1_loop.trips, k0_off3 k = ![1, k.val, 0, 0] := by decide +kernel
theorem off4_eq : ∀ k : Fin k0_t1_loop.trips, k0_off4 k = ![2, k.val, 0, 0] := by decide +kernel
theorem off5_eq : ∀ k : Fin k0_t1_loop.trips, k0_off5 k = ![3, k.val, 0, 0] := by decide +kernel
theorem off6_eq : ∀ k : Fin k0_t1_loop.trips, k0_off6 k = ![128, 128 * k.val] := by decide +kernel
theorem off7_eq : ∀ k : Fin k0_t1_loop.trips, k0_off7 k = ![0, k.val, 0, 128] := by decide +kernel
theorem off8_eq : ∀ k : Fin k0_t1_loop.trips, k0_off8 k = ![1, k.val, 0, 128] := by decide +kernel
theorem off9_eq : ∀ k : Fin k0_t1_loop.trips, k0_off9 k = ![2, k.val, 0, 128] := by decide +kernel
theorem off10_eq : ∀ k : Fin k0_t1_loop.trips, k0_off10 k = ![3, k.val, 0, 128] := by decide +kernel
theorem off11_eq : ∀ k : Fin k0_t1_loop.trips, k0_off11 k = ![0, 256 * k.val] := by decide +kernel

theorem off12_eq : ∀ k : Fin k0_t2_loop.trips, k0_off12 k = ![256, 128 * k.val] := by decide +kernel
theorem off13_eq : ∀ k : Fin k0_t2_loop.trips, k0_off13 k = ![0, k.val, 0, 256] := by decide +kernel
theorem off14_eq : ∀ k : Fin k0_t2_loop.trips, k0_off14 k = ![1, k.val, 0, 256] := by decide +kernel
theorem off15_eq : ∀ k : Fin k0_t2_loop.trips, k0_off15 k = ![2, k.val, 0, 256] := by decide +kernel
theorem off16_eq : ∀ k : Fin k0_t2_loop.trips, k0_off16 k = ![3, k.val, 0, 256] := by decide +kernel
theorem off17_eq : ∀ k : Fin k0_t2_loop.trips, k0_off17 k = ![384, 128 * k.val] := by decide +kernel
theorem off18_eq : ∀ k : Fin k0_t2_loop.trips, k0_off18 k = ![0, k.val, 0, 384] := by decide +kernel
theorem off19_eq : ∀ k : Fin k0_t2_loop.trips, k0_off19 k = ![1, k.val, 0, 384] := by decide +kernel
theorem off20_eq : ∀ k : Fin k0_t2_loop.trips, k0_off20 k = ![2, k.val, 0, 384] := by decide +kernel
theorem off21_eq : ∀ k : Fin k0_t2_loop.trips, k0_off21 k = ![3, k.val, 0, 384] := by decide +kernel
theorem off22_eq : ∀ k : Fin k0_t2_loop.trips, k0_off22 k = ![0, 256 * k.val] := by decide +kernel

/-- The first loop: a trip adds its super-block's term. -/
theorem trip1_apply (𝒱 : Variants) (c : Dev nD) (bd : Option 𝒱.V) (i : grid0.Coords) (arg1 : Memref sig .tc .vmem S32x8192 .bf16) (harg1 : arg1.IsWhole) (arg2 : Memref sig .tc .vmem S512x4096 .i8) (harg2 : arg2.IsWhole) (arg3 : Memref sig .tc .vmem S32x512 .i16) (harg3 : arg3.IsWhole) (arg4 : Memref sig .tc .vmem S32x512 .i16) (harg4 : arg4.IsWhole) (arg5 : Memref sig .tc .vmem S12x32x512 .i8) (harg5 : arg5.IsWhole) (arg6 : Memref sig .tc .vmem S32x512 .bf16) (harg6 : arg6.IsWhole) (arg7 : Memref sig .tc .vmem S4x32x2x512 .bf16) (harg7 : arg7.IsWhole) (arg8 : Memref sig .tc .vmem S4x32x2x512 .bf16) (harg8 : arg8.IsWhole) (v179 : FVec Ideal S32x512 .f32) (v214 : IVec S8x512 32) (v229 : IVec S8x512 32) (v244 : IVec S8x512 32) (v259 : IVec S8x512 32) (v280_hi : FVec Ideal S32x512 .bf16) (v283_lo : FVec Ideal S1x32x512 .bf16)
    (X1 : BufTy.Contents (Elt Ideal) arg1.view.ty) (X2 : BufTy.Contents (Elt Ideal) arg2.view.ty) (X7 : BufTy.Contents (Elt Ideal) arg7.view.ty) (X8 : BufTy.Contents (Elt Ideal) arg8.view.ty) (k : Fin k0_t1_loop.trips) (k' : Fin 32) (hk : k.val = k'.val) (acc : FVec Ideal S32x256 .f32)
    (b : Fin 32) (n' : Fin 256) (n : Fin 512) (hn : n.val = 0 + n'.val) :
    tripR_k0_t1 (F := Ideal) 𝒱 c bd i arg1 harg1 arg2 harg2 arg3 harg3 arg4 harg4 arg5 harg5 arg6 harg6 arg7 harg7 arg8 harg8 v179 v214 v229 v244 v259 v280_hi v283_lo X1 X2 X7 X8 k acc (ix2 b n')
      = acc (ix2 b n') + term (arg1.view.read (Elt Ideal) X1) (arg2.view.read (Elt Ideal) X2) (arg7.view.read (Elt Ideal) X7) (arg8.view.read (Elt Ideal) X8) b n k' := by
  unfold tripR_k0_t1 trip_k0_t1
  dsimp only
  sl_unfold_words
  simp only [View.readAt_eq_ld]
  refine (congrFun (trip_payload _ _ _ _ _ _ _ _ _ _ _ _ _ _ _ _ _ _ _ _) _).trans ?_
  refine product_term _ _ _ _ acc _ _ _ _ _ _ _ k' 0 (by decide)
    (fun b r i hi => acts_apply _ _ _ k' ((off11_eq k).trans (by rw [hk])) b r i hi)
    (fun l j n i hn hi => bytes_apply _ _ _ k' 0 ((off1_eq k).trans (by rw [hk])) l j n hn i hi)
    (fun l j n i hn hi => bytes_apply _ _ _ k' 128 ((off6_eq k).trans (by rw [hk])) l j n hn i hi)
    (fun m p l n hn => rows_apply _ _ _ _ _ _ _ _ _ k' 0 ((off2_eq k).trans (by rw [hk])) ((off3_eq k).trans (by rw [hk])) ((off4_eq k).trans (by rw [hk])) ((off5_eq k).trans (by rw [hk])) m p l n hn)
    (fun m p l n hn => rows_apply _ _ _ _ _ _ _ _ _ k' 128 ((off7_eq k).trans (by rw [hk])) ((off8_eq k).trans (by rw [hk])) ((off9_eq k).trans (by rw [hk])) ((off10_eq k).trans (by rw [hk])) m p l n hn)
    (fun m p l n hn => rows_apply _ _ _ _ _ _ _ _ _ k' 0 ((off2_eq k).trans (by rw [hk])) ((off3_eq k).trans (by rw [hk])) ((off4_eq k).trans (by rw [hk])) ((off5_eq k).trans (by rw [hk])) m p l n hn)
    (fun m p l n hn => rows_apply _ _ _ _ _ _ _ _ _ k' 128 ((off7_eq k).trans (by rw [hk])) ((off8_eq k).trans (by rw [hk])) ((off9_eq k).trans (by rw [hk])) ((off10_eq k).trans (by rw [hk])) m p l n hn)
    b n' n hn

/-- After all its trips, from zero: the sum of the terms. -/
theorem loop1_apply (𝒱 : Variants) (c : Dev nD) (bd : Option 𝒱.V) (i : grid0.Coords) (arg1 : Memref sig .tc .vmem S32x8192 .bf16) (harg1 : arg1.IsWhole) (arg2 : Memref sig .tc .vmem S512x4096 .i8) (harg2 : arg2.IsWhole) (arg3 : Memref sig .tc .vmem S32x512 .i16) (harg3 : arg3.IsWhole) (arg4 : Memref sig .tc .vmem S32x512 .i16) (harg4 : arg4.IsWhole) (arg5 : Memref sig .tc .vmem S12x32x512 .i8) (harg5 : arg5.IsWhole) (arg6 : Memref sig .tc .vmem S32x512 .bf16) (harg6 : arg6.IsWhole) (arg7 : Memref sig .tc .vmem S4x32x2x512 .bf16) (harg7 : arg7.IsWhole) (arg8 : Memref sig .tc .vmem S4x32x2x512 .bf16) (harg8 : arg8.IsWhole) (v179 : FVec Ideal S32x512 .f32) (v214 : IVec S8x512 32) (v229 : IVec S8x512 32) (v244 : IVec S8x512 32) (v259 : IVec S8x512 32) (v280_hi : FVec Ideal S32x512 .bf16) (v283_lo : FVec Ideal S1x32x512 .bf16)
    (X1 : BufTy.Contents (Elt Ideal) arg1.view.ty) (X2 : BufTy.Contents (Elt Ideal) arg2.view.ty) (X7 : BufTy.Contents (Elt Ideal) arg7.view.ty) (X8 : BufTy.Contents (Elt Ideal) arg8.view.ty) (init : FVec Ideal S32x256 .f32) (b : Fin 32) (n' : Fin 256) (n : Fin 512) (hn : n.val = 0 + n'.val) (h0 : init (ix2 b n') = 0) :
    st_k0_t1 (F := Ideal) 𝒱 c bd i arg1 harg1 arg2 harg2 arg3 harg3 arg4 harg4 arg5 harg5 arg6 harg6 arg7 harg7 arg8 harg8 v179 v214 v229 v244 v259 v280_hi v283_lo X1 X2 X7 X8 init k0_t1_loop.trips (ix2 b n')
      = ∑ k : Fin 32, term (arg1.view.read (Elt Ideal) X1) (arg2.view.read (Elt Ideal) X2) (arg7.view.read (Elt Ideal) X7) (arg8.view.read (Elt Ideal) X8) b n k := by
  have key : ∀ j : ℕ, ∀ hj : j ≤ 32, st_k0_t1 (F := Ideal) 𝒱 c bd i arg1 harg1 arg2 harg2 arg3 harg3 arg4 harg4 arg5 harg5 arg6 harg6 arg7 harg7 arg8 harg8 v179 v214 v229 v244 v259 v280_hi v283_lo X1 X2 X7 X8 init j (ix2 b n')
      = ∑ k : Fin j, term (arg1.view.read (Elt Ideal) X1) (arg2.view.read (Elt Ideal) X2) (arg7.view.read (Elt Ideal) X7) (arg8.view.read (Elt Ideal) X8) b n (k.castLE hj) := by
    intro j
    induction j with
    | zero => intro _; rw [st_k0_t1_zero, h0]; rfl
    | succ j ih =>
      intro hj
      have e := st_k0_t1_succ (F := Ideal) 𝒱 c bd i arg1 harg1 arg2 harg2 arg3 harg3 arg4 harg4 arg5 harg5 arg6 harg6 arg7 harg7 arg8 harg8 v179 v214 v229 v244 v259 v280_hi v283_lo X1 X2 X7 X8 init ⟨j, by rw [trips1]; omega⟩
      rw [Fin.sum_univ_castSucc]
      refine (congrFun e _).trans ?_
      rw [trip1_apply 𝒱 c bd i arg1 harg1 arg2 harg2 arg3 harg3 arg4 harg4 arg5 harg5 arg6 harg6 arg7 harg7 arg8 harg8 v179 v214 v229 v244 v259 v280_hi v283_lo X1 X2 X7 X8 ⟨j, by rw [trips1]; omega⟩ ⟨j, by omega⟩ rfl _ b n' n hn]
      exact congrArg₂ (· + ·) (ih (by omega)) rfl
  rw [trips1]
  exact key 32 le_rfl

/-- The second loop: a trip adds its super-block's term. -/
theorem trip2_apply (𝒱 : Variants) (c : Dev nD) (bd : Option 𝒱.V) (i : grid0.Coords) (arg1 : Memref sig .tc .vmem S32x8192 .bf16) (harg1 : arg1.IsWhole) (arg2 : Memref sig .tc .vmem S512x4096 .i8) (harg2 : arg2.IsWhole) (arg3 : Memref sig .tc .vmem S32x512 .i16) (harg3 : arg3.IsWhole) (arg4 : Memref sig .tc .vmem S32x512 .i16) (harg4 : arg4.IsWhole) (arg5 : Memref sig .tc .vmem S12x32x512 .i8) (harg5 : arg5.IsWhole) (arg6 : Memref sig .tc .vmem S32x512 .bf16) (harg6 : arg6.IsWhole) (arg7 : Memref sig .tc .vmem S4x32x2x512 .bf16) (harg7 : arg7.IsWhole) (arg8 : Memref sig .tc .vmem S4x32x2x512 .bf16) (harg8 : arg8.IsWhole)
    (X1 : BufTy.Contents (Elt Ideal) arg1.view.ty) (X2 : BufTy.Contents (Elt Ideal) arg2.view.ty) (X7 : BufTy.Contents (Elt Ideal) arg7.view.ty) (X8 : BufTy.Contents (Elt Ideal) arg8.view.ty) (k : Fin k0_t2_loop.trips) (k' : Fin 32) (hk : k.val = k'.val) (acc : FVec Ideal S32x256 .f32)
    (b : Fin 32) (n' : Fin 256) (n : Fin 512) (hn : n.val = 256 + n'.val) :
    tripR_k0_t2 (F := Ideal) 𝒱 c bd i arg1 harg1 arg2 harg2 arg3 harg3 arg4 harg4 arg5 harg5 arg6 harg6 arg7 harg7 arg8 harg8 X1 X2 X7 X8 k acc (ix2 b n')
      = acc (ix2 b n') + term (arg1.view.read (Elt Ideal) X1) (arg2.view.read (Elt Ideal) X2) (arg7.view.read (Elt Ideal) X7) (arg8.view.read (Elt Ideal) X8) b n k' := by
  unfold tripR_k0_t2 trip_k0_t2
  dsimp only
  sl_unfold_words
  simp only [View.readAt_eq_ld]
  refine (congrFun (trip_payload' _ _ _ _ _ _ _ _ _ _ _ _ _ _ _ _ _ _ _ _) _).trans ?_
  refine product_term _ _ _ _ acc _ _ _ _ _ _ _ k' 256 (by decide)
    (fun b r i hi => acts_apply _ _ _ k' ((off22_eq k).trans (by rw [hk])) b r i hi)
    (fun l j n i hn hi => bytes_apply _ _ _ k' 256 ((off12_eq k).trans (by rw [hk])) l j n hn i hi)
    (fun l j n i hn hi => bytes_apply _ _ _ k' 384 ((off17_eq k).trans (by rw [hk])) l j n hn i hi)
    (fun m p l n hn => rows_apply _ _ _ _ _ _ _ _ _ k' 256 ((off13_eq k).trans (by rw [hk])) ((off14_eq k).trans (by rw [hk])) ((off15_eq k).trans (by rw [hk])) ((off16_eq k).trans (by rw [hk])) m p l n hn)
    (fun m p l n hn => rows_apply _ _ _ _ _ _ _ _ _ k' 384 ((off18_eq k).trans (by rw [hk])) ((off19_eq k).trans (by rw [hk])) ((off20_eq k).trans (by rw [hk])) ((off21_eq k).trans (by rw [hk])) m p l n hn)
    (fun m p l n hn => rows_apply _ _ _ _ _ _ _ _ _ k' 256 ((off13_eq k).trans (by rw [hk])) ((off14_eq k).trans (by rw [hk])) ((off15_eq k).trans (by rw [hk])) ((off16_eq k).trans (by rw [hk])) m p l n hn)
    (fun m p l n hn => rows_apply _ _ _ _ _ _ _ _ _ k' 384 ((off18_eq k).trans (by rw [hk])) ((off19_eq k).trans (by rw [hk])) ((off20_eq k).trans (by rw [hk])) ((off21_eq k).trans (by rw [hk])) m p l n hn)
    b n' n hn

/-- After all its trips, from zero: the sum of the terms. -/
theorem loop2_apply (𝒱 : Variants) (c : Dev nD) (bd : Option 𝒱.V) (i : grid0.Coords) (arg1 : Memref sig .tc .vmem S32x8192 .bf16) (harg1 : arg1.IsWhole) (arg2 : Memref sig .tc .vmem S512x4096 .i8) (harg2 : arg2.IsWhole) (arg3 : Memref sig .tc .vmem S32x512 .i16) (harg3 : arg3.IsWhole) (arg4 : Memref sig .tc .vmem S32x512 .i16) (harg4 : arg4.IsWhole) (arg5 : Memref sig .tc .vmem S12x32x512 .i8) (harg5 : arg5.IsWhole) (arg6 : Memref sig .tc .vmem S32x512 .bf16) (harg6 : arg6.IsWhole) (arg7 : Memref sig .tc .vmem S4x32x2x512 .bf16) (harg7 : arg7.IsWhole) (arg8 : Memref sig .tc .vmem S4x32x2x512 .bf16) (harg8 : arg8.IsWhole)
    (X1 : BufTy.Contents (Elt Ideal) arg1.view.ty) (X2 : BufTy.Contents (Elt Ideal) arg2.view.ty) (X7 : BufTy.Contents (Elt Ideal) arg7.view.ty) (X8 : BufTy.Contents (Elt Ideal) arg8.view.ty) (init : FVec Ideal S32x256 .f32) (b : Fin 32) (n' : Fin 256) (n : Fin 512) (hn : n.val = 256 + n'.val) (h0 : init (ix2 b n') = 0) :
    st_k0_t2 (F := Ideal) 𝒱 c bd i arg1 harg1 arg2 harg2 arg3 harg3 arg4 harg4 arg5 harg5 arg6 harg6 arg7 harg7 arg8 harg8 X1 X2 X7 X8 init k0_t2_loop.trips (ix2 b n')
      = ∑ k : Fin 32, term (arg1.view.read (Elt Ideal) X1) (arg2.view.read (Elt Ideal) X2) (arg7.view.read (Elt Ideal) X7) (arg8.view.read (Elt Ideal) X8) b n k := by
  have key : ∀ j : ℕ, ∀ hj : j ≤ 32, st_k0_t2 (F := Ideal) 𝒱 c bd i arg1 harg1 arg2 harg2 arg3 harg3 arg4 harg4 arg5 harg5 arg6 harg6 arg7 harg7 arg8 harg8 X1 X2 X7 X8 init j (ix2 b n')
      = ∑ k : Fin j, term (arg1.view.read (Elt Ideal) X1) (arg2.view.read (Elt Ideal) X2) (arg7.view.read (Elt Ideal) X7) (arg8.view.read (Elt Ideal) X8) b n (k.castLE hj) := by
    intro j
    induction j with
    | zero => intro _; rw [st_k0_t2_zero, h0]; rfl
    | succ j ih =>
      intro hj
      have e := st_k0_t2_succ (F := Ideal) 𝒱 c bd i arg1 harg1 arg2 harg2 arg3 harg3 arg4 harg4 arg5 harg5 arg6 harg6 arg7 harg7 arg8 harg8 X1 X2 X7 X8 init ⟨j, by rw [trips2]; omega⟩
      rw [Fin.sum_univ_castSucc]
      refine (congrFun e _).trans ?_
      rw [trip2_apply 𝒱 c bd i arg1 harg1 arg2 harg2 arg3 harg3 arg4 harg4 arg5 harg5 arg6 harg6 arg7 harg7 arg8 harg8 X1 X2 X7 X8 ⟨j, by rw [trips2]; omega⟩ ⟨j, by omega⟩ rfl _ b n' n hn]
      exact congrArg₂ (· + ·) (ih (by omega)) rfl
  rw [trips2]
  exact key 32 le_rfl

end Cert.KernelIdeal.Trip

end
-- ==== Proof.Bytes.lean ====
/- The packed six-bit scales, unpacked four bytes to a word, read byte by byte (hand-written, untrusted). -/
module

public import proofs.«01_k».proof.Proof.Gen.KernelIdeal.Skeleton
public import Idealize.ShloMosaic.Lib.ValueIdx
public import Idealize.ShloMosaic.Lib.ValueIdxCoords
public import Idealize.ShloMosaic.Lib.ValueLayout
public import Idealize.ShloMosaic.Lib.BitcastFour
public import Idealize.ShloMosaic.Lib.Pipeline.Value

@[expose] public section

set_option maxRecDepth 16384

noncomputable section

namespace Cert.KernelIdeal.Bytes

open Cert.KernelIdeal Cert.KernelIdeal.Gen Idealize.ShloMosaic Idealize.ShloMosaic.ValueIdx

/-- One byte plane of the packed scales, as loaded. -/
abbrev Plane := Vec Ideal S1x32x512 .i8

/-- The plane as words of four bytes. -/
def word (X : Plane) : IVec S8x512 32 :=
  bitcast S8x512 32 (shapeCast S32x512 X shapeCasts_S1x32x512_S32x512) bitcasts_S32x512_w8_S8x512_w32

/-- Words as bytes. -/
def bytes (W : IVec S8x512 32) : IVec S32x512 8 := bitcast S32x512 8 W bitcasts_S8x512_w32_S32x512_w8

theorem word_getLsbD (X : Plane) (a : Fin 8) (l : Fin 512) (q : ℕ) (hq : q < 32) (p : Fin 32) (hp : p.val = 4 * a.val + q / 8) :
    (word X (ix2 a l)).getLsbD q = (X (ix3 (0 : Fin 1) p l)).getLsbD (q % 8) := by
  unfold word
  rw [bitcast_8_32_getLsbD_ix2 _ _ a l q hq p hp, shapeCast_1ab_ab_apply]

theorem bytes_getLsbD (W : IVec S8x512 32) (r : Fin 32) (l : Fin 512) (q : ℕ) (hq : q < 8) :
    (bytes W (ix2 r l)).getLsbD q = (W (ix2 (⟨r.val / 4, by omega⟩ : Fin 8) l)).getLsbD (8 * (r.val % 4) + q) := by
  unfold bytes
  rw [bitcast_getLsbD _ _ _ q hq (by decide)]
  have hrow : S32x512.row (ix2 r l) = r.val := rfl
  have e2 : (S32x512.row (ix2 r l) * 8 + q) % 32 = 8 * (r.val % 4) + q := by rw [hrow]; omega
  rw [e2]
  congr 2
  funext c
  match c with
  | ⟨0, _⟩ =>
    refine Fin.ext ((bitcasts_S8x512_w32_S32x512_w8.srcIdx_row _ _ _ ⟨0, Nat.zero_lt_two⟩ rfl).trans ?_)
    show (S32x512.row (ix2 r l) * 8 + q) / 32 = r.val / 4
    rw [hrow]; omega
  | ⟨1, _⟩ => exact Fin.ext (bitcasts_S8x512_w32_S32x512_w8.srcIdx_other _ _ _ ⟨1, Nat.one_lt_two⟩ (by show ¬ 1 + 2 = 2; omega))

/-- A mask of one byte repeated. -/
theorem mask63 : ∀ (i : Fin 4) (q : Fin 8), (1061109567#32 : BitVec 32).getLsbD (8 * i.val + q.val) = (63#8 : BitVec 8).getLsbD q.val := by decide
theorem mask15 : ∀ (i : Fin 4) (q : Fin 8), (252645135#32 : BitVec 32).getLsbD (8 * i.val + q.val) = (15#8 : BitVec 8).getLsbD q.val := by decide
theorem mask48 : ∀ (i : Fin 4) (q : Fin 8), (808464432#32 : BitVec 32).getLsbD (8 * i.val + q.val) = (48#8 : BitVec 8).getLsbD q.val := by decide
theorem top48 : ∀ (q : Fin 8), 6 ≤ q.val → (48#8 : BitVec 8).getLsbD q.val = false := by decide
theorem top15 : ∀ (q : Fin 8), 4 ≤ q.val → (15#8 : BitVec 8).getLsbD q.val = false := by decide

/-- A word shifted right by `n` and masked, byte by byte, where the mask drops what comes over from the next byte. -/
theorem shifted_getLsbD (X : Plane) (M : BitVec 32) (m : BitVec 8) (n : ℕ) (hn : n < 8)
    (hm : ∀ (i : Fin 4) (q : Fin 8), M.getLsbD (8 * i.val + q.val) = m.getLsbD q.val)
    (ht : ∀ (q : Fin 8), 8 - n ≤ q.val → m.getLsbD q.val = false) (r : Fin 32) (l : Fin 512) (q : ℕ) (hq : q < 8) :
    ((word X (ix2 (⟨r.val / 4, by omega⟩ : Fin 8) l) >>> n) &&& M).getLsbD (8 * (r.val % 4) + q)
      = ((X (ix3 (0 : Fin 1) r l) >>> n) &&& m).getLsbD q := by
  rw [BitVec.getLsbD_and, BitVec.getLsbD_and, BitVec.getLsbD_ushiftRight, BitVec.getLsbD_ushiftRight]
  rw [hm ⟨r.val % 4, by omega⟩ ⟨q, hq⟩]
  by_cases h : 8 - n ≤ q
  · rw [ht ⟨q, hq⟩ h, Bool.and_false, Bool.and_false]
  · rw [word_getLsbD X _ l _ (by omega) r (by show r.val = 4 * (r.val / 4) + (n + (8 * (r.val % 4) + q)) / 8; omega)]
    rw [show (n + (8 * (r.val % 4) + q)) % 8 = n + q by omega]

/-- A scale or offset of the first four groups: the low six bits of a byte. -/
def lo6 (X : Plane) : IVec S32x512 8 := bytes (andi (word X) (broadcast S8x512 1061109567#32))

/-- A scale of the last four groups: the low four bits of a byte and, above them, the top two of another. -/
def lo4 (X Y : Plane) : IVec S32x512 8 :=
  bytes (ori (andi (word X) (broadcast S8x512 252645135#32)) (andi (shrui (word Y) (broadcast S8x512 2#32)) (broadcast S8x512 808464432#32)))

/-- An offset of the last four groups: the high four bits of a byte and, above them, the top two of another. -/
def hi4 (X Y : Plane) : IVec S32x512 8 :=
  bytes (ori (andi (shrui (word X) (broadcast S8x512 4#32)) (broadcast S8x512 252645135#32))
    (andi (shrui (word Y) (broadcast S8x512 2#32)) (broadcast S8x512 808464432#32)))

theorem lo6_apply (X : Plane) (r : Fin 32) (l : Fin 512) : lo6 X (ix2 r l) = X (ix3 (0 : Fin 1) r l) &&& 63#8 := by
  refine BitVec.eq_of_getLsbD_eq fun q hq => ?_
  unfold lo6
  rw [bytes_getLsbD _ _ _ _ hq]
  have h := shifted_getLsbD X 1061109567#32 63#8 0 (by decide) mask63 (fun q h => absurd h (by omega)) r l q hq
  rw [BitVec.ushiftRight_zero, BitVec.ushiftRight_zero] at h
  exact h

theorem lo4_apply (X Y : Plane) (r : Fin 32) (l : Fin 512) :
    lo4 X Y (ix2 r l) = (X (ix3 (0 : Fin 1) r l) &&& 15#8) ||| ((Y (ix3 (0 : Fin 1) r l) >>> 2) &&& 48#8) := by
  refine BitVec.eq_of_getLsbD_eq fun q hq => ?_
  unfold lo4
  rw [bytes_getLsbD _ _ _ _ hq]
  have h := shifted_getLsbD X 252645135#32 15#8 0 (by decide) mask15 (fun q h => absurd h (by omega)) r l q hq
  have h' := shifted_getLsbD Y 808464432#32 48#8 2 (by decide) mask48 top48 r l q hq
  rw [BitVec.ushiftRight_zero, BitVec.ushiftRight_zero] at h
  rw [BitVec.getLsbD_or]
  refine Eq.trans ?_ (congrArg₂ (· || ·) h h')
  rw [← BitVec.getLsbD_or]
  rfl

theorem hi4_apply (X Y : Plane) (r : Fin 32) (l : Fin 512) :
    hi4 X Y (ix2 r l) = ((X (ix3 (0 : Fin 1) r l) >>> 4) &&& 15#8) ||| ((Y (ix3 (0 : Fin 1) r l) >>> 2) &&& 48#8) := by
  refine BitVec.eq_of_getLsbD_eq fun q hq => ?_
  unfold hi4
  rw [bytes_getLsbD _ _ _ _ hq]
  have h := shifted_getLsbD X 252645135#32 15#8 4 (by decide) mask15 top15 r l q hq
  have h' := shifted_getLsbD Y 808464432#32 48#8 2 (by decide) mask48 top48 r l q hq
  rw [BitVec.getLsbD_or]
  refine Eq.trans ?_ (congrArg₂ (· || ·) h h')
  rw [← BitVec.getLsbD_or]
  rfl

end Cert.KernelIdeal.Bytes

end
-- ==== Proof.Scratch.lean ====
/- The two scratches after the kernel has filled them: scales and offsets, by group, super-block, parity and lane
   (hand-written, untrusted). -/
module

public import proofs.«01_k».proof.Proof.Bytes
public import Idealize.ShloMosaic.Lib.Bf16Pair
public import Idealize.ShloMosaic.Lib.Pipeline.ValueKit.Tiles

@[expose] public section

set_option maxRecDepth 16384

noncomputable section

namespace Cert.KernelIdeal.Scratch

open Cert.KernelIdeal Cert.KernelIdeal.Gen Cert.KernelIdeal.Bytes Idealize.ShloMosaic Idealize.ShloMosaic.ValueIdx

/-- One leading row of a scratch: the factor times a byte, the two parities' bytes side by side. -/
def piece (D : FVec Ideal S32x512 .f32) (b0 b1 : IVec S32x512 8) : Vec Ideal S1x32x2x512 .bf16 :=
  have p (b : IVec S32x512 8) : FVec Ideal S1x32x1x512 .bf16 :=
    shapeCast S1x32x1x512 (shapeCast S1x32x512 (truncf .bf16 (mulf D (extf .f32 (uitofp .bf16 b) bitsLt_bf16_f32)) bitsLt_bf16_f32) shapeCasts_S32x512_S1x32x512)
      shapeCasts_S1x32x512_S1x32x1x512
  interleaveRows S1x32x2x512 (p b0) (p b1) bitcasts_S1x32x2x512_w16_S1x32x1x512_w32

theorem scale0 (D X0 X1) : k0_pay51 (F := Ideal) (k0_pay49 D (k0_pay38 X0)) (k0_pay50 D (k0_pay40 (k0_pay39 X1))) = piece D (lo6 X0) (lo6 X1) := rfl
theorem scale1 (D X2 X3) : k0_pay52 (F := Ideal) D (k0_pay41 X2) (k0_pay42 X3) = piece D (lo6 X2) (lo6 X3) := rfl
theorem scale2 (D X8 X0 X9 X1) : k0_pay53 (F := Ideal) D (k0_pay43 X8 X0) (k0_pay46 (k0_pay44 X9) (k0_pay45 X1) 808464432#32) = piece D (lo4 X8 X0) (lo4 X9 X1) := rfl
theorem scale3 (D X10 X2 X11 X3) : k0_pay55 (F := Ideal) D (k0_pay48 X11 X3) (k0_pay54 D (k0_pay47 X10 X2)) = piece D (lo4 X10 X2) (lo4 X11 X3) := rfl
theorem offset0 (D X4 X5) : k0_pay72 (F := Ideal) D (k0_pay61 X4) (k0_pay62 X5) = piece D (lo6 X4) (lo6 X5) := rfl
theorem offset1 (D X6 X7) : k0_pay75 (F := Ideal) (k0_pay73 D (k0_pay64 X7)) (k0_pay74 D (k0_pay63 X6)) = piece D (lo6 X6) (lo6 X7) := rfl
theorem offset2 (D X8 X4 X9 X5) : k0_pay76 (F := Ideal) D (k0_pay67 (k0_pay65 X8) (k0_pay66 X4)) (k0_pay68 X9 X5) = piece D (hi4 X8 X4) (hi4 X9 X5) := rfl
theorem offset3 (D X10 X6 X11 X7) : k0_pay77 (F := Ideal) D (k0_pay69 X10 X6) (k0_pay71 (k0_pay70 X11) X7) = piece D (hi4 X10 X6) (hi4 X11 X7) := rfl

theorem piece_apply (D : FVec Ideal S32x512 .f32) (b0 b1 : IVec S32x512 8) (i : Fin 1) (c : Fin 32) (e : Fin 2) (l : Fin 512) :
    piece D b0 b1 (ix4 i c e l) = D (ix2 c l) * FloatOps.uitofp (F := Ideal) .bf16 ((if e.val = 0 then b0 else b1) (ix2 c l)) := by
  have hp : ∀ b : IVec S32x512 8, ∀ j : S1x32x1x512.Idx, shapeCast S1x32x1x512 (shapeCast S1x32x512 (truncf (F := Ideal) .bf16 (mulf D (extf .f32 (uitofp .bf16 b) bitsLt_bf16_f32)) bitsLt_bf16_f32) shapeCasts_S32x512_S1x32x512)
      shapeCasts_S1x32x512_S1x32x1x512 j = D (ix2 (j 1) (j 3)) * FloatOps.uitofp (F := Ideal) .bf16 (b (ix2 (j 1) (j 3))) := by
    intro b j
    have h0' : (j 0).val = 0 := Nat.lt_one_iff.mp (j 0).isLt
    have h2' : (j 2).val = 0 := Nat.lt_one_iff.mp (j 2).isLt
    refine (shapeCast_apply _ _ _ (ix3 (0 : Fin 1) (j 1 : Fin 32) (j 3 : Fin 512)) (by
      rw [Shape.rowMajor_val_three, Shape.rowMajor_val_four]
      show (0 * 32 + (j 1).val) * 512 + (j 3).val = (((j 0).val * 32 + (j 1).val) * 1 + (j 2).val) * 512 + (j 3).val
      rw [h0', h2']; omega)).trans ?_
    refine (shapeCast_ab_1ab_apply _ _ _ _ _).trans ?_
    rfl
  unfold piece interleaveRows
  dsimp only
  rw [hp, hp]
  have hrow : S1x32x2x512.row (ix4 i c e l) = e.val := rfl
  rw [hrow]
  have he : e.val = 0 ∨ e.val = 1 := by omega
  rcases he with h | h <;> simp only [h] <;> rfl

/-- The byte holding the scale of group `2m + e`, unpacked … -/
def scaleByte (x : S12x32x512.Idx → BitVec 8) (m : Fin 4) (e : Fin 2) (c : Fin 32) (l : Fin 512) : BitVec 8 :=
  if h : m.val < 2 then x (ix3 (⟨2 * m.val + e.val, by omega⟩ : Fin 12) c l) &&& 63#8
  else (x (ix3 (⟨2 * m.val + e.val + 4, by omega⟩ : Fin 12) c l) &&& 15#8) ||| ((x (ix3 (⟨2 * m.val + e.val - 4, by omega⟩ : Fin 12) c l) >>> 2) &&& 48#8)

/-- … and its offset. -/
def offsetByte (x : S12x32x512.Idx → BitVec 8) (m : Fin 4) (e : Fin 2) (c : Fin 32) (l : Fin 512) : BitVec 8 :=
  if h : m.val < 2 then x (ix3 (⟨2 * m.val + e.val + 4, by omega⟩ : Fin 12) c l) &&& 63#8
  else ((x (ix3 (⟨2 * m.val + e.val + 4, by omega⟩ : Fin 12) c l) >>> 4) &&& 15#8) ||| ((x (ix3 (⟨2 * m.val + e.val, by omega⟩ : Fin 12) c l) >>> 2) &&& 48#8)

/-- A scratch's contents: the factor times the unpacked byte. -/
def held (D : FVec Ideal S32x512 .f32) (B : Fin 4 → Fin 2 → Fin 32 → Fin 512 → BitVec 8) : S4x32x2x512.Idx → Elt Ideal .bf16 :=
  fun i => (D (ix2 (i 1) (i 3)) : EReal) * FloatOps.uitofp (F := Ideal) .bf16 (B (i 0) (i 2) (i 1) (i 3))

/-- One leading row. -/
theorem held_row (D : FVec Ideal S32x512 .f32) (B : Fin 4 → Fin 2 → Fin 32 → Fin 512 → BitVec 8) (m : Fin 4) (off : Fin 4 → ℕ) (inb)
    (hoff : off = ![m.val, 0, 0, 0]) (b0 b1 : IVec S32x512 8) (h0 : ∀ c l, b0 (ix2 c l) = B m 0 c l) (h1 : ∀ c l, b1 (ix2 c l) = B m 1 c l)
    (x : (Rect.unit (s := S4x32x2x512) off S1x32x2x512.size inb).shape.Idx) :
    piece D b0 b1 x = held D B ((Rect.unit (s := S4x32x2x512) off S1x32x2x512.size inb).emb x) := by
  subst hoff
  have key := View.ld_unit_apply_of (Val := Elt Ideal) (e := .bf16) (held D B) ![m.val, 0, 0, 0] S1x32x2x512.size inb x
    (ix4 m (x 1) (x 2) (x 3)) (fun a => match a with
      | ⟨0, _⟩ => by
          have hx : (x 0).val < 1 := (x 0).isLt
          show m.val = m.val + (x 0).val; omega
      | ⟨1, _⟩ => (Nat.zero_add _).symm | ⟨2, _⟩ => (Nat.zero_add _).symm | ⟨3, _⟩ => (Nat.zero_add _).symm)
  refine Eq.trans ?_ key.symm
  refine (congrArg (piece D b0 b1) (eq_ix4 (n0 := 1) (n1 := 32) (n2 := 2) (n3 := 512) x)).trans ?_
  refine (piece_apply D b0 b1 (x 0) (x 1) (x 2) (x 3)).trans ?_
  have side : ∀ (e : Fin 2) (c : Fin 32) (l : Fin 512), (if e.val = 0 then b0 else b1) (ix2 c l) = B m e c l := by
    intro e c l
    have he : ∀ e : Fin 2, e = 0 ∨ e = 1 := by decide
    rcases he e with rfl | rfl
    · exact h0 c l
    · exact h1 c l
  exact congrArg (fun v : BitVec 8 => (D (ix2 (x 1 : Fin 32) (x 3 : Fin 512)) : EReal) * FloatOps.uitofp (F := Ideal) .bf16 v) (side (x 2) (x 1) (x 3))

/-- A byte plane of the packed scales. -/
abbrev plane (x : S12x32x512.Idx → BitVec 8) (j : ℕ) (inb : ∀ a, (![j, 0, 0] : Fin 3 → ℕ) a + S1x32x512.size a ≤ S12x32x512.size a) : Plane :=
  View.ld (Val := Elt Ideal) (e' := .i8) x (Rect.unit (s := S12x32x512) ![j, 0, 0] S1x32x512.size inb)

theorem plane_apply (x : S12x32x512.Idx → BitVec 8) (j : ℕ) (inb) (j' : Fin 12) (hj : j'.val = j) (c : Fin 32) (l : Fin 512) :
    plane x j inb (ix3 (0 : Fin 1) c l) = x (ix3 j' c l) :=
  View.ld_unit_apply_of (Val := Elt Ideal) (e := .i8) x _ _ _ (ix3 (0 : Fin 1) c l) _ (fun a => match a with
    | ⟨0, _⟩ => hj | ⟨1, _⟩ => (Nat.zero_add _).symm | ⟨2, _⟩ => (Nat.zero_add _).symm)

/-- Four stores, one for each leading row, cover a scratch. -/
theorem rows_cover (p3 p2 p1 p0 : Vec Ideal S1x32x2x512 .bf16) (y : S4x32x2x512.Idx) :
    ∃ p ∈ ([⟨Rect.unit (s := S4x32x2x512) ![3, 0, 0, 0] S1x32x2x512.size inb_S4x32x2x512_S1x32x2x512_3_0_0_0, p3⟩,
      ⟨Rect.unit (s := S4x32x2x512) ![2, 0, 0, 0] S1x32x2x512.size inb_S4x32x2x512_S1x32x2x512_2_0_0_0, p2⟩,
      ⟨Rect.unit (s := S4x32x2x512) ![1, 0, 0, 0] S1x32x2x512.size inb_S4x32x2x512_S1x32x2x512_1_0_0_0, p1⟩,
      ⟨Rect.unit (s := S4x32x2x512) ![0, 0, 0, 0] S1x32x2x512.size inb_S4x32x2x512_S1x32x2x512_0_0_0_0, p0⟩] : List (View.Piece (Elt Ideal) S4x32x2x512 .bf16)),
      y ∈ p.1.set := by
  have hy : ∀ m : Fin 4, ∀ inb, (y 0).val = m.val → y ∈ (Rect.unit (s := S4x32x2x512) ![m.val, 0, 0, 0] S1x32x2x512.size inb).set := by
    intro m inb hm
    rw [Rect.mem_set_unit]
    intro a
    match a with
    | ⟨0, _⟩ => exact ⟨hm.symm.le, by show (y 0).val < m.val + 1; omega⟩
    | ⟨1, _⟩ => exact ⟨Nat.zero_le _, by show (y 1).val < 0 + 32; have : (y 1).val < 32 := (y 1).isLt; omega⟩
    | ⟨2, _⟩ => exact ⟨Nat.zero_le _, by show (y 2).val < 0 + 2; have : (y 2).val < 2 := (y 2).isLt; omega⟩
    | ⟨3, _⟩ => exact ⟨Nat.zero_le _, by show (y 3).val < 0 + 512; have : (y 3).val < 512 := (y 3).isLt; omega⟩
  have hlt : (y 0).val < 4 := (y 0).isLt
  have hc : (y 0).val = 0 ∨ (y 0).val = 1 ∨ (y 0).val = 2 ∨ (y 0).val = 3 := by omega
  rcases hc with h | h | h | h
  · exact ⟨_, List.mem_cons_of_mem _ (List.mem_cons_of_mem _ (List.mem_cons_of_mem _ List.mem_cons_self)), hy 0 inb_S4x32x2x512_S1x32x2x512_0_0_0_0 h⟩
  · exact ⟨_, List.mem_cons_of_mem _ (List.mem_cons_of_mem _ List.mem_cons_self), hy 1 inb_S4x32x2x512_S1x32x2x512_1_0_0_0 h⟩
  · exact ⟨_, List.mem_cons_of_mem _ List.mem_cons_self, hy 2 inb_S4x32x2x512_S1x32x2x512_2_0_0_0 h⟩
  · exact ⟨_, List.mem_cons_self, hy 3 inb_S4x32x2x512_S1x32x2x512_3_0_0_0 h⟩

/-- What the kernel's stores leave in the scales' scratch. -/
theorem scales_canon (D : FVec Ideal S32x512 .f32) (x : S12x32x512.Idx → BitVec 8) :
    View.canon (Val := Elt Ideal) (s := S4x32x2x512) (e := .bf16) [⟨Rect.unit (s := S4x32x2x512) ![3, 0, 0, 0] S1x32x2x512.size inb_S4x32x2x512_S1x32x2x512_3_0_0_0, k0_pay55 (F := Ideal) D (k0_pay48 (plane x 11 inb_S12x32x512_S1x32x512_11_0_0) (plane x 3 inb_S12x32x512_S1x32x512_3_0_0)) (k0_pay54 D (k0_pay47 (plane x 10 inb_S12x32x512_S1x32x512_10_0_0) (plane x 2 inb_S12x32x512_S1x32x512_2_0_0)))⟩,
      ⟨Rect.unit (s := S4x32x2x512) ![2, 0, 0, 0] S1x32x2x512.size inb_S4x32x2x512_S1x32x2x512_2_0_0_0, k0_pay53 (F := Ideal) D (k0_pay43 (plane x 8 inb_S12x32x512_S1x32x512_8_0_0) (plane x 0 inb_S12x32x512_S1x32x512_0_0_0)) (k0_pay46 (k0_pay44 (plane x 9 inb_S12x32x512_S1x32x512_9_0_0)) (k0_pay45 (plane x 1 inb_S12x32x512_S1x32x512_1_0_0)) 808464432#32)⟩,
      ⟨Rect.unit (s := S4x32x2x512) ![1, 0, 0, 0] S1x32x2x512.size inb_S4x32x2x512_S1x32x2x512_1_0_0_0, k0_pay52 (F := Ideal) D (k0_pay41 (plane x 2 inb_S12x32x512_S1x32x512_2_0_0)) (k0_pay42 (plane x 3 inb_S12x32x512_S1x32x512_3_0_0))⟩,
      ⟨Rect.unit (s := S4x32x2x512) ![0, 0, 0, 0] S1x32x2x512.size inb_S4x32x2x512_S1x32x2x512_0_0_0_0, k0_pay51 (F := Ideal) (k0_pay49 D (k0_pay38 (plane x 0 inb_S12x32x512_S1x32x512_0_0_0))) (k0_pay50 D (k0_pay40 (k0_pay39 (plane x 1 inb_S12x32x512_S1x32x512_1_0_0))))⟩]
      = held D (scaleByte x) := by
  funext y
  refine View.canon_apply_of_pieces (held D (scaleByte x)) _ ?_ y ?_
  · intro p hp
    simp only [List.mem_cons, List.not_mem_nil, or_false] at hp
    rcases hp with rfl | rfl | rfl | rfl
    · intro z
      exact (congrFun (scale3 D (plane x 10 inb_S12x32x512_S1x32x512_10_0_0) (plane x 2 inb_S12x32x512_S1x32x512_2_0_0) (plane x 11 inb_S12x32x512_S1x32x512_11_0_0) (plane x 3 inb_S12x32x512_S1x32x512_3_0_0)) z).trans
        (held_row D (scaleByte x) ⟨3, by decide⟩ _ inb_S4x32x2x512_S1x32x2x512_3_0_0_0 rfl _ _
          (fun c l => (lo4_apply (plane x 10 inb_S12x32x512_S1x32x512_10_0_0) (plane x 2 inb_S12x32x512_S1x32x512_2_0_0) c l).trans (by rw [plane_apply x 10 _ ⟨10, by decide⟩ rfl, plane_apply x 2 _ ⟨2, by decide⟩ rfl]; rfl))
          (fun c l => (lo4_apply (plane x 11 inb_S12x32x512_S1x32x512_11_0_0) (plane x 3 inb_S12x32x512_S1x32x512_3_0_0) c l).trans (by rw [plane_apply x 11 _ ⟨11, by decide⟩ rfl, plane_apply x 3 _ ⟨3, by decide⟩ rfl]; rfl)) z)
    · intro z
      exact (congrFun (scale2 D (plane x 8 inb_S12x32x512_S1x32x512_8_0_0) (plane x 0 inb_S12x32x512_S1x32x512_0_0_0) (plane x 9 inb_S12x32x512_S1x32x512_9_0_0) (plane x 1 inb_S12x32x512_S1x32x512_1_0_0)) z).trans
        (held_row D (scaleByte x) ⟨2, by decide⟩ _ inb_S4x32x2x512_S1x32x2x512_2_0_0_0 rfl _ _
          (fun c l => (lo4_apply (plane x 8 inb_S12x32x512_S1x32x512_8_0_0) (plane x 0 inb_S12x32x512_S1x32x512_0_0_0) c l).trans (by rw [plane_apply x 8 _ ⟨8, by decide⟩ rfl, plane_apply x 0 _ ⟨0, by decide⟩ rfl]; rfl))
          (fun c l => (lo4_apply (plane x 9 inb_S12x32x512_S1x32x512_9_0_0) (plane x 1 inb_S12x32x512_S1x32x512_1_0_0) c l).trans (by rw [plane_apply x 9 _ ⟨9, by decide⟩ rfl, plane_apply x 1 _ ⟨1, by decide⟩ rfl]; rfl)) z)
    · intro z
      exact (congrFun (scale1 D (plane x 2 inb_S12x32x512_S1x32x512_2_0_0) (plane x 3 inb_S12x32x512_S1x32x512_3_0_0)) z).trans
        (held_row D (scaleByte x) ⟨1, by decide⟩ _ inb_S4x32x2x512_S1x32x2x512_1_0_0_0 rfl _ _
          (fun c l => (lo6_apply (plane x 2 inb_S12x32x512_S1x32x512_2_0_0) c l).trans (by rw [plane_apply x 2 _ ⟨2, by decide⟩ rfl]; rfl))
          (fun c l => (lo6_apply (plane x 3 inb_S12x32x512_S1x32x512_3_0_0) c l).trans (by rw [plane_apply x 3 _ ⟨3, by decide⟩ rfl]; rfl)) z)
    · intro z
      exact (congrFun (scale0 D (plane x 0 inb_S12x32x512_S1x32x512_0_0_0) (plane x 1 inb_S12x32x512_S1x32x512_1_0_0)) z).trans
        (held_row D (scaleByte x) ⟨0, by decide⟩ _ inb_S4x32x2x512_S1x32x2x512_0_0_0_0 rfl _ _
          (fun c l => (lo6_apply (plane x 0 inb_S12x32x512_S1x32x512_0_0_0) c l).trans (by rw [plane_apply x 0 _ ⟨0, by decide⟩ rfl]; rfl))
          (fun c l => (lo6_apply (plane x 1 inb_S12x32x512_S1x32x512_1_0_0) c l).trans (by rw [plane_apply x 1 _ ⟨1, by decide⟩ rfl]; rfl)) z)
  · exact rows_cover _ _ _ _ y

/-- What the kernel's stores leave in the offsets' scratch. -/
theorem offsets_canon (D : FVec Ideal S32x512 .f32) (x : S12x32x512.Idx → BitVec 8) :
    View.canon (Val := Elt Ideal) (s := S4x32x2x512) (e := .bf16) [⟨Rect.unit (s := S4x32x2x512) ![3, 0, 0, 0] S1x32x2x512.size inb_S4x32x2x512_S1x32x2x512_3_0_0_0, k0_pay77 (F := Ideal) D (k0_pay69 (plane x 10 inb_S12x32x512_S1x32x512_10_0_0) (plane x 6 inb_S12x32x512_S1x32x512_6_0_0)) (k0_pay71 (k0_pay70 (plane x 11 inb_S12x32x512_S1x32x512_11_0_0)) (plane x 7 inb_S12x32x512_S1x32x512_7_0_0))⟩,
      ⟨Rect.unit (s := S4x32x2x512) ![2, 0, 0, 0] S1x32x2x512.size inb_S4x32x2x512_S1x32x2x512_2_0_0_0, k0_pay76 (F := Ideal) D (k0_pay67 (k0_pay65 (plane x 8 inb_S12x32x512_S1x32x512_8_0_0)) (k0_pay66 (plane x 4 inb_S12x32x512_S1x32x512_4_0_0))) (k0_pay68 (plane x 9 inb_S12x32x512_S1x32x512_9_0_0) (plane x 5 inb_S12x32x512_S1x32x512_5_0_0))⟩,
      ⟨Rect.unit (s := S4x32x2x512) ![1, 0, 0, 0] S1x32x2x512.size inb_S4x32x2x512_S1x32x2x512_1_0_0_0, k0_pay75 (F := Ideal) (k0_pay73 D (k0_pay64 (plane x 7 inb_S12x32x512_S1x32x512_7_0_0))) (k0_pay74 D (k0_pay63 (plane x 6 inb_S12x32x512_S1x32x512_6_0_0)))⟩,
      ⟨Rect.unit (s := S4x32x2x512) ![0, 0, 0, 0] S1x32x2x512.size inb_S4x32x2x512_S1x32x2x512_0_0_0_0, k0_pay72 (F := Ideal) D (k0_pay61 (plane x 4 inb_S12x32x512_S1x32x512_4_0_0)) (k0_pay62 (plane x 5 inb_S12x32x512_S1x32x512_5_0_0))⟩]
      = held D (offsetByte x) := by
  funext y
  refine View.canon_apply_of_pieces (held D (offsetByte x)) _ ?_ y ?_
  · intro p hp
    simp only [List.mem_cons, List.not_mem_nil, or_false] at hp
    rcases hp with rfl | rfl | rfl | rfl
    · intro z
      exact (congrFun (offset3 D (plane x 10 inb_S12x32x512_S1x32x512_10_0_0) (plane x 6 inb_S12x32x512_S1x32x512_6_0_0) (plane x 11 inb_S12x32x512_S1x32x512_11_0_0) (plane x 7 inb_S12x32x512_S1x32x512_7_0_0)) z).trans
        (held_row D (offsetByte x) ⟨3, by decide⟩ _ inb_S4x32x2x512_S1x32x2x512_3_0_0_0 rfl _ _
          (fun c l => (hi4_apply (plane x 10 inb_S12x32x512_S1x32x512_10_0_0) (plane x 6 inb_S12x32x512_S1x32x512_6_0_0) c l).trans (by rw [plane_apply x 10 _ ⟨10, by decide⟩ rfl, plane_apply x 6 _ ⟨6, by decide⟩ rfl]; rfl))
          (fun c l => (hi4_apply (plane x 11 inb_S12x32x512_S1x32x512_11_0_0) (plane x 7 inb_S12x32x512_S1x32x512_7_0_0) c l).trans (by rw [plane_apply x 11 _ ⟨11, by decide⟩ rfl, plane_apply x 7 _ ⟨7, by decide⟩ rfl]; rfl)) z)
    · intro z
      exact (congrFun (offset2 D (plane x 8 inb_S12x32x512_S1x32x512_8_0_0) (plane x 4 inb_S12x32x512_S1x32x512_4_0_0) (plane x 9 inb_S12x32x512_S1x32x512_9_0_0) (plane x 5 inb_S12x32x512_S1x32x512_5_0_0)) z).trans
        (held_row D (offsetByte x) ⟨2, by decide⟩ _ inb_S4x32x2x512_S1x32x2x512_2_0_0_0 rfl _ _
          (fun c l => (hi4_apply (plane x 8 inb_S12x32x512_S1x32x512_8_0_0) (plane x 4 inb_S12x32x512_S1x32x512_4_0_0) c l).trans (by rw [plane_apply x 8 _ ⟨8, by decide⟩ rfl, plane_apply x 4 _ ⟨4, by decide⟩ rfl]; rfl))
          (fun c l => (hi4_apply (plane x 9 inb_S12x32x512_S1x32x512_9_0_0) (plane x 5 inb_S12x32x512_S1x32x512_5_0_0) c l).trans (by rw [plane_apply x 9 _ ⟨9, by decide⟩ rfl, plane_apply x 5 _ ⟨5, by decide⟩ rfl]; rfl)) z)
    · intro z
      exact (congrFun (offset1 D (plane x 6 inb_S12x32x512_S1x32x512_6_0_0) (plane x 7 inb_S12x32x512_S1x32x512_7_0_0)) z).trans
        (held_row D (offsetByte x) ⟨1, by decide⟩ _ inb_S4x32x2x512_S1x32x2x512_1_0_0_0 rfl _ _
          (fun c l => (lo6_apply (plane x 6 inb_S12x32x512_S1x32x512_6_0_0) c l).trans (by rw [plane_apply x 6 _ ⟨6, by decide⟩ rfl]; rfl))
          (fun c l => (lo6_apply (plane x 7 inb_S12x32x512_S1x32x512_7_0_0) c l).trans (by rw [plane_apply x 7 _ ⟨7, by decide⟩ rfl]; rfl)) z)
    · intro z
      exact (congrFun (offset0 D (plane x 4 inb_S12x32x512_S1x32x512_4_0_0) (plane x 5 inb_S12x32x512_S1x32x512_5_0_0)) z).trans
        (held_row D (offsetByte x) ⟨0, by decide⟩ _ inb_S4x32x2x512_S1x32x2x512_0_0_0_0 rfl _ _
          (fun c l => (lo6_apply (plane x 4 inb_S12x32x512_S1x32x512_4_0_0) c l).trans (by rw [plane_apply x 4 _ ⟨4, by decide⟩ rfl]; rfl))
          (fun c l => (lo6_apply (plane x 5 inb_S12x32x512_S1x32x512_5_0_0) c l).trans (by rw [plane_apply x 5 _ ⟨5, by decide⟩ rfl]; rfl)) z)
  · exact rows_cover _ _ _ _ y

end Cert.KernelIdeal.Scratch

end
-- ==== Proof.Block.lean ====
/- One block of the result as the kernel body leaves it (hand-written, untrusted). -/
module

public import proofs.«01_k».proof.Proof.Trip
public import proofs.«01_k».proof.Proof.Scratch
public import proofs.«01_k».proof.Proof.Gen.KernelIdeal.Value

@[expose] public section

set_option maxRecDepth 16384

noncomputable section

namespace Cert.KernelIdeal.Block

open Cert.KernelIdeal Cert.KernelIdeal.Gen Cert.KernelIdeal.Trip Cert.KernelIdeal.Scratch Idealize.ShloMosaic Idealize.ShloMosaic.ValueIdx Idealize.SL.Sem
open Idealize.ShloMosaic.TcCoe
open scoped BigOperators

/-- The block over the blocks of the arguments: activations, packed codes, the two factors' bits, packed scales. -/
def blockVal (x0 : S32x8192.Idx → Ideal .bf16) (x1 : S512x4096.Idx → BitVec 8) (x2 x3 : S32x512.Idx → BitVec 16) (x4 : S12x32x512.Idx → BitVec 8) :
    S32x512.Idx → Elt Ideal .bf16 :=
  fun i => (∑ k : Fin 32, term x0 x1 (held (k0_pay37 (F := Ideal) x2) (scaleByte x4)) (held (k0_pay37 (F := Ideal) x3) (offsetByte x4)) (i 0) (i 1) k : EReal)

theorem offset_factor (y : Vec Ideal S32x512 .i16) :
    k0_pay60 (F := Ideal) (k0_pay57 y) (k0_pay58 y) (FloatOps.ofBits FTy.f32 1065353216#32) k0_pay59 = k0_pay37 y := rfl

theorem zero1 : ∀ i, k0_pay78 (F := Ideal) i = (0 : EReal) := fun i => by
  show Ideal.ofBits .f32 0x00000000#32 = 0
  simp [Ideal.ofBits, Ideal.ieee]

theorem zero2 : ∀ i, k0_pay1 (F := Ideal) i = (0 : EReal) := fun i => by
  show Ideal.ofBits .f32 0x00000000#32 = 0
  simp [Ideal.ofBits, Ideal.ieee]

/-- The two halves of a block, stored beside each other. -/
theorem halves_canon (c : Dev nD) (i : grid0.Coords) (arg1 : Memref sig .tc .vmem S32x8192 .bf16) (harg1 : arg1.IsWhole) (arg2 : Memref sig .tc .vmem S512x4096 .i8) (harg2 : arg2.IsWhole) (arg3 : Memref sig .tc .vmem S32x512 .i16) (harg3 : arg3.IsWhole) (arg4 : Memref sig .tc .vmem S32x512 .i16) (harg4 : arg4.IsWhole) (arg5 : Memref sig .tc .vmem S12x32x512 .i8) (harg5 : arg5.IsWhole) (arg6 : Memref sig .tc .vmem S32x512 .bf16) (harg6 : arg6.IsWhole) (arg7 : Memref sig .tc .vmem S4x32x2x512 .bf16) (harg7 : arg7.IsWhole) (arg8 : Memref sig .tc .vmem S4x32x2x512 .bf16) (harg8 : arg8.IsWhole)
    (v179 : FVec Ideal S32x512 .f32) (v214 : IVec S8x512 32) (v229 : IVec S8x512 32) (v244 : IVec S8x512 32) (v259 : IVec S8x512 32) (v280_hi : FVec Ideal S32x512 .bf16) (v283_lo : FVec Ideal S1x32x512 .bf16)
    (X1 : BufTy.Contents (Elt Ideal) arg1.view.ty) (X2 : BufTy.Contents (Elt Ideal) arg2.view.ty) (X7 : BufTy.Contents (Elt Ideal) arg7.view.ty) (X8 : BufTy.Contents (Elt Ideal) arg8.view.ty)
    (x : S32x8192.Idx → Ideal .bf16) (q : S512x4096.Idx → BitVec 8) (s o : S4x32x2x512.Idx → Ideal .bf16)
    (h1 : arg1.view.read (Elt Ideal) X1 = x) (h2 : arg2.view.read (Elt Ideal) X2 = q) (h7 : arg7.view.read (Elt Ideal) X7 = s) (h8 : arg8.view.read (Elt Ideal) X8 = o) :
    View.canon (Val := Elt Ideal) (s := S32x512) (e := .bf16)
      [⟨Rect.unit ![0, 256] ![32, 256] inb_S32x512_S32x256_0_256, k0_pay2 (st_k0_t2 (F := Ideal) Variants.none c none i arg1 harg1 arg2 harg2 arg3 harg3 arg4 harg4 arg5 harg5 arg6 harg6 arg7 harg7 arg8 harg8 X1 X2 X7 X8 k0_pay1 (Scf.trips 0#32 (Scalar.addi 0#32 32#32) 1#32))⟩,
       ⟨Rect.unit ![0, 0] ![32, 256] inb_S32x512_S32x256_0_0, k0_pay79 (st_k0_t1 (F := Ideal) Variants.none c none i arg1 harg1 arg2 harg2 arg3 harg3 arg4 harg4 arg5 harg5 arg6 harg6 arg7 harg7 arg8 harg8 v179 v214 v229 v244 v259 v280_hi v283_lo X1 X2 X7 X8 k0_pay78 (Scf.trips 0#32 (Scalar.addi 0#32 32#32) 1#32))⟩]
      = fun y => (∑ k : Fin 32, term x q s o (y 0) (y 1) k : EReal) := by
  subst h1 h2 h7 h8
  funext y
  refine View.canon_apply_of_pieces (Val := Elt Ideal) (S := S32x512) (e := .bf16) (fun y => (∑ k : Fin 32, term _ _ _ _ (y 0) (y 1) k : EReal)) _ ?_ y ?_
  · intro p hp
    simp only [List.mem_cons, List.not_mem_nil, or_false] at hp
    rcases hp with rfl | rfl
    · intro z
      have hz : (z 1).val < 256 := (z 1).isLt
      refine Eq.trans ?_ (View.ld_unit_apply_of (Val := Elt Ideal) (e := .bf16) (fun y : S32x512.Idx => (∑ k : Fin 32, term (arg1.view.read (Elt Ideal) X1) (arg2.view.read (Elt Ideal) X2) (arg7.view.read (Elt Ideal) X7) (arg8.view.read (Elt Ideal) X8) (y 0) (y 1) k : EReal))
        ![0, 256] ![32, 256] inb_S32x512_S32x256_0_256 z (ix2 (z 0 : Fin 32) (⟨256 + (z 1).val, by omega⟩ : Fin 512)) (fun a => match a with
          | ⟨0, _⟩ => (Nat.zero_add _).symm | ⟨1, _⟩ => rfl)).symm
      refine Eq.trans ?_ (loop2_apply Variants.none c none i arg1 harg1 arg2 harg2 arg3 harg3 arg4 harg4 arg5 harg5 arg6 harg6 arg7 harg7 arg8 harg8 X1 X2 X7 X8 k0_pay1 (z 0) (z 1) ⟨256 + (z 1).val, by omega⟩ rfl (zero2 _))
      exact congrArg (st_k0_t2 (F := Ideal) Variants.none c none i arg1 harg1 arg2 harg2 arg3 harg3 arg4 harg4 arg5 harg5 arg6 harg6 arg7 harg7 arg8 harg8 X1 X2 X7 X8 k0_pay1 k0_t2_loop.trips) (eq_ix2 (n0 := 32) (n1 := 256) z)
    · intro z
      have hz : (z 1).val < 256 := (z 1).isLt
      refine Eq.trans ?_ (View.ld_unit_apply_of (Val := Elt Ideal) (e := .bf16) (fun y : S32x512.Idx => (∑ k : Fin 32, term (arg1.view.read (Elt Ideal) X1) (arg2.view.read (Elt Ideal) X2) (arg7.view.read (Elt Ideal) X7) (arg8.view.read (Elt Ideal) X8) (y 0) (y 1) k : EReal))
        ![0, 0] ![32, 256] inb_S32x512_S32x256_0_0 z (ix2 (z 0 : Fin 32) (⟨0 + (z 1).val, by omega⟩ : Fin 512)) (fun a => match a with
          | ⟨0, _⟩ => (Nat.zero_add _).symm | ⟨1, _⟩ => rfl)).symm
      refine Eq.trans ?_ (loop1_apply Variants.none c none i arg1 harg1 arg2 harg2 arg3 harg3 arg4 harg4 arg5 harg5 arg6 harg6 arg7 harg7 arg8 harg8 v179 v214 v229 v244 v259 v280_hi v283_lo X1 X2 X7 X8 k0_pay78 (z 0) (z 1) ⟨0 + (z 1).val, by omega⟩ rfl (zero1 _))
      exact congrArg (st_k0_t1 (F := Ideal) Variants.none c none i arg1 harg1 arg2 harg2 arg3 harg3 arg4 harg4 arg5 harg5 arg6 harg6 arg7 harg7 arg8 harg8 v179 v214 v229 v244 v259 v280_hi v283_lo X1 X2 X7 X8 k0_pay78 k0_t1_loop.trips) (eq_ix2 (n0 := 32) (n1 := 256) z)
  · have hr : (y 0).val < 32 := (y 0).isLt
    have hl : (y 1).val < 512 := (y 1).isLt
    by_cases h : (y 1).val < 256
    · refine ⟨_, List.mem_cons_of_mem _ List.mem_cons_self, ?_⟩
      refine (Rect.mem_set_unit (inb := inb_S32x512_S32x256_0_0)).mpr fun a => ?_
      match a with
      | ⟨0, _⟩ => exact ⟨Nat.zero_le _, by show (y 0).val < 0 + 32; omega⟩
      | ⟨1, _⟩ => exact ⟨Nat.zero_le _, by show (y 1).val < 0 + 256; omega⟩
    · refine ⟨_, List.mem_cons_self, ?_⟩
      refine (Rect.mem_set_unit (inb := inb_S32x512_S32x256_0_256)).mpr fun a => ?_
      match a with
      | ⟨0, _⟩ => exact ⟨Nat.zero_le _, by show (y 0).val < 0 + 32; omega⟩
      | ⟨1, _⟩ => exact ⟨by show 256 ≤ (y 1).val; omega, by show (y 1).val < 256 + 256; omega⟩

/-- The body's result is the block. -/
theorem out_eq (c : Dev nD) (i : grid0.Coords) (arg1 : Memref sig .tc .vmem S32x8192 .bf16) (harg1 : arg1.IsWhole) (arg2 : Memref sig .tc .vmem S512x4096 .i8) (harg2 : arg2.IsWhole) (arg3 : Memref sig .tc .vmem S32x512 .i16) (harg3 : arg3.IsWhole) (arg4 : Memref sig .tc .vmem S32x512 .i16) (harg4 : arg4.IsWhole) (arg5 : Memref sig .tc .vmem S12x32x512 .i8) (harg5 : arg5.IsWhole) (arg6 : Memref sig .tc .vmem S32x512 .bf16) (harg6 : arg6.IsWhole) (arg7 : Memref sig .tc .vmem S4x32x2x512 .bf16) (harg7 : arg7.IsWhole) (arg8 : Memref sig .tc .vmem S4x32x2x512 .bf16) (harg8 : arg8.IsWhole)
    (x0 : Vec Ideal S32x8192 .bf16) (x1 : Vec Ideal S512x4096 .i8) (x2 x3 : Vec Ideal S32x512 .i16) (x4 : Vec Ideal S12x32x512 .i8) :
    out0_A_5 (F := Ideal) c i arg1 harg1 arg2 harg2 arg3 harg3 arg4 harg4 arg5 harg5 arg6 harg6 arg7 harg7 arg8 harg8 x0 x1 x2 x3 x4 = blockVal x0 x1 x2 x3 x4 := by
  unfold out0_A_5
  rw [View.read_writes_eq_canon _ _ _ (cover0_A_5 c _ _ _ _ _ _ _ _ _ _ _ _ _ _ _ _ _ _ _ _ _ _)]
  unfold kernelRun0_A
  dsimp only
  sl_unfold_words
  simp only [View.readAt_eq_ld, harg1.read_unread, harg2.read_unread, harg3.read_unread, harg4.read_unread, harg5.read_unread]
  have hld : ∀ v : Vec Ideal S32x512 .i16, View.ld (Val := Elt Ideal) (e' := .i16) v (Rect.unit (s := S32x512) ![0, 0] ![32, 512] inb_S32x512_S32x512_0_0) = v :=
    fun v => View.ld_unit_zero (Val := Elt Ideal) (by funext a; match a with | ⟨0, _⟩ => rfl | ⟨1, _⟩ => rfl) _ v
  refine (halves_canon c i arg1 harg1 arg2 harg2 arg3 harg3 arg4 harg4 arg5 harg5 arg6 harg6 arg7 harg7 arg8 harg8 _ _ _ _ _ _ _ _ _ _ _ x0 x1
    (held (k0_pay37 (F := Ideal) x2) (scaleByte x4)) (held (k0_pay37 (F := Ideal) x3) (offsetByte x4)) (harg1.read_unread x0) (harg2.read_unread x1) ?_ ?_).trans rfl
  · refine (View.read_writes_eq_canon _ _ _ (rows_cover _ _ _ _)).trans ((scales_canon _ x4).trans ?_)
    rw [hld]
  · refine (View.read_writes_eq_canon _ _ _ (rows_cover _ _ _ _)).trans ((offsets_canon _ x4).trans ?_)
    rw [hld, offset_factor]

end Cert.KernelIdeal.Block

end
-- ==== Proof.Entry.lean ====
/- What each window's block holds at each grid point, from the arguments (hand-written, untrusted). -/
module

public import proofs.«01_k».proof.Proof.Gen.KernelIdeal.Value
public import Idealize.ShloMosaic.Lib.ValueIdx
public import Idealize.ShloMosaic.Lib.ValueIdxCoords
public import Idealize.ShloMosaic.Lib.ValueLayout
public import Idealize.ShloMosaic.Lib.Claim

@[expose] public section

set_option maxRecDepth 16384

noncomputable section

namespace Cert.KernelIdeal.Entry

open Cert.KernelIdeal Cert.KernelIdeal.Gen Idealize.ShloMosaic Idealize.ShloMosaic.ValueIdx Idealize.SL.Sem
open Idealize.ShloMosaic.TcCoe Idealize.ShloMosaic.StableHlo

variable (m : (ℓ : Loc nD τ sig) → Buf (Elt Ideal) ℓ) (c : Dev nD)

theorem V_v2 : V m c main_v2 = shapeCast S32x8192 (transpose S32x128x32x2 [0, 1, 3, 2]
    (shapeCast S32x128x2x32 (m ((c : Thread nD τ).loc main_arg0)) shapeCasts_S32x1x8192_S32x128x2x32) transposes_S32x128x2x32_S32x128x32x2_0_1_3_2) shapeCasts_S32x128x32x2_S32x8192 := by
  entry_read; rfl
theorem V_v3 : V m c main_v3 = transpose S12x32x32768 [2, 1, 0] (m ((c : Thread nD τ).loc main_arg4)) transposes_S32768x32x12_S12x32x32768_2_1_0 := by
  entry_read; rfl
theorem V_v4 : V m c main_v4 = transpose S32x32768 [1, 0] (m ((c : Thread nD τ).loc main_arg2)) transposes_S32768x32_S32x32768_1_0 := by
  entry_read; rfl
theorem V_v5 : V m c main_v5 = transpose S32x32768 [1, 0] (m ((c : Thread nD τ).loc main_arg3)) transposes_S32768x32_S32x32768_1_0 := by
  entry_read; rfl

theorem idx0 : ∀ t : Fin cfg0.N, win0_0.index t = ![0, 0] := (by decide +kernel : ∀ t : Fin grid0.N, win0_0.index t = ![0, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, t.val] := (by decide +kernel : ∀ t : Fin grid0.N, win0_2.index t = ![0, t.val])
theorem idx3 : ∀ t : Fin cfg0.N, win0_3.index t = ![0, t.val] := (by decide +kernel : ∀ t : Fin grid0.N, win0_3.index t = ![0, t.val])
theorem idx4 : ∀ t : Fin cfg0.N, win0_4.index t = ![0, 0, t.val] := (by decide +kernel : ∀ t : Fin grid0.N, win0_4.index t = ![0, 0, t.val])
theorem idx5 : ∀ t : Fin cfg0.N, win0_5.index t = ![0, t.val] := (by decide +kernel : ∀ t : Fin grid0.N, win0_5.index t = ![0, t.val])

theorem lane_lt (t : Fin cfg0.N) (l : Fin 512) : 512 * t.val + l.val < 32768 := by
  have h : t.val < 64 := t.isLt
  omega

/-- The lane `l` of block `t` among all the outputs. -/
abbrev lane (t : Fin cfg0.N) (l : Fin 512) : Fin 32768 := ⟨512 * t.val + l.val, lane_lt t l⟩

theorem block1 (t : Fin cfg0.N) (l : Fin 512) (j : Fin 4096) :
    iblk m c 1 t (ix2 l j) = m ((c : Thread nD τ).loc main_arg1) (ix2 (lane t l) j) := by
  have h := idx1 t
  refine Eq.trans ?_ (congrFun (V_main_arg1 m c) _)
  refine congrArg (V m c main_arg1) (funext fun a => Fin.ext ?_)
  match a with
  | ⟨0, _⟩ => show win0_1.index t 0 * 512 + 1 * l.val = 512 * t.val + l.val; rw [h]; show t.val * 512 + 1 * l.val = _; omega
  | ⟨1, _⟩ => show win0_1.index t 1 * 4096 + 1 * j.val = j.val; rw [h]; show 0 * 4096 + 1 * j.val = _; omega

theorem block0 (t : Fin cfg0.N) (b : Fin 32) (p : Fin 8192) :
    iblk m c 0 t (ix2 b p) = m ((c : Thread nD τ).loc main_arg0)
      (ix3 b (0 : Fin 1) (⟨64 * (p.val / 64) + 32 * (p.val % 2) + p.val % 64 / 2, by omega⟩ : Fin 8192)) := by
  have h := idx0 t
  have e : iblk m c 0 t (ix2 b p) = V m c main_v2 (ix2 b p) := by
    refine congrArg (V m c main_v2) (funext fun a => Fin.ext ?_)
    match a with
    | ⟨0, _⟩ => show win0_0.index t 0 * 32 + 1 * b.val = b.val; rw [h]; show 0 * 32 + 1 * b.val = _; omega
    | ⟨1, _⟩ => show win0_0.index t 1 * 8192 + 1 * p.val = p.val; rw [h]; show 0 * 8192 + 1 * p.val = _; omega
  rw [e, V_v2]
  rw [shapeCast_apply _ _ _ (ix4 b (⟨p.val / 64, by omega⟩ : Fin 128) (⟨p.val % 64 / 2, by omega⟩ : Fin 32) (⟨p.val % 2, by omega⟩ : Fin 2)) (by
    rw [Shape.rowMajor_val_two, Shape.rowMajor_val_four]
    show ((b.val * 128 + p.val / 64) * 32 + p.val % 64 / 2) * 2 + p.val % 2 = b.val * 8192 + p.val
    omega)]
  rw [transpose_apply _ _ _ _ (ix4 b (⟨p.val / 64, by omega⟩ : Fin 128) (⟨p.val % 2, by omega⟩ : Fin 2) (⟨p.val % 64 / 2, by omega⟩ : Fin 32)) (fun a => match a with
    | ⟨0, _⟩ => rfl | ⟨1, _⟩ => rfl | ⟨2, _⟩ => rfl | ⟨3, _⟩ => rfl)]
  rw [shapeCast_apply _ _ _ (ix3 b (0 : Fin 1) (⟨64 * (p.val / 64) + 32 * (p.val % 2) + p.val % 64 / 2, by omega⟩ : Fin 8192)) (by
    rw [Shape.rowMajor_val_three, Shape.rowMajor_val_four]
    show (b.val * 1 + 0) * 8192 + (64 * (p.val / 64) + 32 * (p.val % 2) + p.val % 64 / 2) = ((b.val * 128 + p.val / 64) * 2 + p.val % 2) * 32 + p.val % 64 / 2
    omega)]

theorem block2 (t : Fin cfg0.N) (k : Fin 32) (l : Fin 512) :
    iblk m c 2 t (ix2 k l) = m ((c : Thread nD τ).loc main_arg2) (ix2 (lane t l) k) := by
  have h := idx2 t
  have e : iblk m c 2 t (ix2 k l) = V m c main_v4 (ix2 k (lane t l)) := by
    refine congrArg (V m c main_v4) (funext fun a => Fin.ext ?_)
    match a with
    | ⟨0, _⟩ => show win0_2.index t 0 * 32 + 1 * k.val = k.val; rw [h]; show 0 * 32 + 1 * k.val = _; omega
    | ⟨1, _⟩ => show win0_2.index t 1 * 512 + 1 * l.val = 512 * t.val + l.val; rw [h]; show t.val * 512 + 1 * l.val = _; omega
  rw [e, V_v4, transpose_ix2_apply]

theorem block3 (t : Fin cfg0.N) (k : Fin 32) (l : Fin 512) :
    iblk m c 3 t (ix2 k l) = m ((c : Thread nD τ).loc main_arg3) (ix2 (lane t l) k) := by
  have h := idx3 t
  have e : iblk m c 3 t (ix2 k l) = V m c main_v5 (ix2 k (lane t l)) := by
    refine congrArg (V m c main_v5) (funext fun a => Fin.ext ?_)
    match a with
    | ⟨0, _⟩ => show win0_3.index t 0 * 32 + 1 * k.val = k.val; rw [h]; show 0 * 32 + 1 * k.val = _; omega
    | ⟨1, _⟩ => show win0_3.index t 1 * 512 + 1 * l.val = 512 * t.val + l.val; rw [h]; show t.val * 512 + 1 * l.val = _; omega
  rw [e, V_v5, transpose_ix2_apply]

theorem block4 (t : Fin cfg0.N) (j : Fin 12) (k : Fin 32) (l : Fin 512) :
    iblk m c 4 t (ix3 j k l) = m ((c : Thread nD τ).loc main_arg4) (ix3 (lane t l) k j) := by
  have h := idx4 t
  have e : iblk m c 4 t (ix3 j k l) = V m c main_v3 (ix3 j k (lane t l)) := by
    refine congrArg (V m c main_v3) (funext fun a => Fin.ext ?_)
    match a with
    | ⟨0, _⟩ => show win0_4.index t 0 * 12 + 1 * j.val = j.val; rw [h]; show 0 * 12 + 1 * j.val = _; omega
    | ⟨1, _⟩ => show win0_4.index t 1 * 32 + 1 * k.val = k.val; rw [h]; show 0 * 32 + 1 * k.val = _; omega
    | ⟨2, _⟩ => show win0_4.index t 2 * 512 + 1 * l.val = 512 * t.val + l.val; rw [h]; show t.val * 512 + 1 * l.val = _; omega
  rw [e, V_v3, transpose_apply _ _ _ _ (ix3 (lane t l) k j) (fun a => match a with
    | ⟨0, _⟩ => rfl | ⟨1, _⟩ => rfl | ⟨2, _⟩ => rfl)]

end Cert.KernelIdeal.Entry

end
-- ==== Proof.KernelValue.lean ====
/- The kernel's whole result as a function of its arguments (hand-written, untrusted). -/
module

public import proofs.«01_k».proof.Proof.Block
public import proofs.«01_k».proof.Proof.Entry

@[expose] public section

set_option maxRecDepth 16384

noncomputable section

namespace Cert.KernelIdeal.KernelValue

open Cert.KernelIdeal Cert.KernelIdeal.Gen Cert.KernelIdeal.Weights Cert.KernelIdeal.Trip Cert.KernelIdeal.Scratch Cert.KernelIdeal.Block Cert.KernelIdeal.Entry
open Idealize.ShloMosaic Idealize.ShloMosaic.ValueIdx Idealize.SL.Sem
open Idealize.ShloMosaic.TcCoe
open Idealize.ShloMosaic.Pipeline (Dat)
open scoped BigOperators

/-- A half-precision number's value as the kernel makes it of its sixteen bits. -/
def half (v : BitVec 16) : EReal :=
  have w : BitVec 32 := IntOp.andi (v.setWidth 32) 32767#32
  have small : BitVec 1 := IntOp.cmpi .ult w 1024#32
  (Ideal.ofBits .f32 (IntOp.addi (IntOp.shli .vector w 13#32)
      (Scalar.select (IntOp.cmpi .uge w 31744#32) 1879048192#32 (Scalar.select small 947912704#32 939524096#32)))
    - Scalar.select small (Ideal.ofBits .f32 0x38800000#32) (Ideal.ofBits .f32 0x00000000#32))
  * Scalar.select (IntOp.cmpi .ne (IntOp.andi (v.setWidth 32) 32768#32) 0#32) (Ideal.ofBits .f32 0xBF800000#32) (Ideal.ofBits .f32 0x3F800000#32)

theorem half_apply (x : Vec Ideal S32x512 .i16) (k : Fin 32) (l : Fin 512) : k0_pay37 (F := Ideal) x (ix2 k l) = half (x (ix2 k l)) := by
  unfold k0_pay37
  rw [shapeCast_self]
  rfl

/-- The byte holding the scale of group `2m + e` of a super-block, from the super-block's twelve bytes … -/
def scaleOf (x : Fin 12 → BitVec 8) (m : Fin 4) (e : Fin 2) : BitVec 8 :=
  if h : m.val < 2 then x ⟨2 * m.val + e.val, by omega⟩ &&& 63#8
  else (x ⟨2 * m.val + e.val + 4, by omega⟩ &&& 15#8) ||| ((x ⟨2 * m.val + e.val - 4, by omega⟩ >>> 2) &&& 48#8)

/-- … and its offset. -/
def offsetOf (x : Fin 12 → BitVec 8) (m : Fin 4) (e : Fin 2) : BitVec 8 :=
  if h : m.val < 2 then x ⟨2 * m.val + e.val + 4, by omega⟩ &&& 63#8
  else ((x ⟨2 * m.val + e.val + 4, by omega⟩ >>> 4) &&& 15#8) ||| ((x ⟨2 * m.val + e.val, by omega⟩ >>> 2) &&& 48#8)

section
variable (x : S32x1x8192.Idx → Ideal .bf16) (q : S32768x4096.Idx → BitVec 8) (d dm : S32768x32.Idx → BitVec 16) (s : S32768x32x12.Idx → BitVec 8)

/-- The scale of parity `e`, group `m`, super-block `k` of output `o`. -/
def scale (o : Fin 32768) (k : Fin 32) (m : Fin 4) (e : Fin 2) : EReal :=
  half (d (ix2 o k)) * FloatOps.uitofp (F := Ideal) .bf16 (scaleOf (fun j => s (ix3 o k j)) m e)

/-- Its offset. -/
def offset (o : Fin 32768) (k : Fin 32) (m : Fin 4) (e : Fin 2) : EReal :=
  half (dm (ix2 o k)) * FloatOps.uitofp (F := Ideal) .bf16 (offsetOf (fun j => s (ix3 o k j)) m e)

/-- One entry of the result: over super-blocks and their rows, activation times weight. -/
def entry (b : Fin 32) (o : Fin 32768) : EReal :=
  ∑ k : Fin 32, ∑ r : Fin 256,
    (x (ix3 b (0 : Fin 1) (⟨256 * k.val + (64 * (r.val / 64) + 32 * (r.val % 2) + r.val % 64 / 2), by omega⟩ : Fin 8192)) : EReal)
      * weight (q (ix2 o (⟨128 * k.val + r.val / 2, by omega⟩ : Fin 4096))) (par r.val)
          (scale d s o k ⟨r.val / 64, by omega⟩ (par r.val)) (offset dm s o k ⟨r.val / 64, by omega⟩ (par r.val))

/-- The result. -/
def result : S32x32768.Idx → Elt Ideal .bf16 := fun i => entry x q d dm s (i 0) (i 1)

end

variable (m : (ℓ : Loc nD τ sig) → Buf (Elt Ideal) ℓ) (ρ : Dev nD → PrngReg) (c : Dev nD)

/-- The result over device `c`'s arguments. -/
abbrev out : S32x32768.Idx → Elt Ideal .bf16 :=
  result (m ((c : Thread nD τ).loc main_arg0)) (m ((c : Thread nD τ).loc main_arg1)) (m ((c : Thread nD τ).loc main_arg2))
    (m ((c : Thread nD τ).loc main_arg3)) (m ((c : Thread nD τ).loc main_arg4))

theorem blockVal_apply (t : Fin cfg0.N) (b : Fin 32) (l : Fin 512) :
    blockVal (iblk m c 0 t) (iblk m c 1 t) (iblk m c 2 t) (iblk m c 3 t) (iblk m c 4 t) (ix2 b l) = out m c (ix2 b (lane t l)) := by
  show (∑ k : Fin 32, term _ _ _ _ b l k : EReal) = entry _ _ _ _ _ b (lane t l)
  unfold entry
  refine Finset.sum_congr rfl fun k _ => ?_
  unfold term
  refine Finset.sum_congr rfl fun r _ => ?_
  have hs : ∀ (mm : Fin 4) (e : Fin 2), held (k0_pay37 (F := Ideal) (iblk m c 2 t)) (scaleByte (iblk m c 4 t)) (ix4 mm k e l)
      = scale (m ((c : Thread nD τ).loc main_arg2)) (m ((c : Thread nD τ).loc main_arg4)) (lane t l) k mm e := by
    intro mm e
    have h1 := half_apply (iblk m c 2 t) k l
    rw [block2] at h1
    have h2 : (fun j => iblk m c 4 t (ix3 j k l)) = fun j => m ((c : Thread nD τ).loc main_arg4) (ix3 (lane t l) k j) := funext fun j => block4 m c t j k l
    have h3 : scaleByte (iblk m c 4 t) mm e k l = scaleOf (fun j => iblk m c 4 t (ix3 j k l)) mm e := rfl
    rw [h2] at h3
    exact congrArg₂ (fun (a : EReal) (v : BitVec 8) => a * FloatOps.uitofp (F := Ideal) .bf16 v) h1 h3
  have ho : ∀ (mm : Fin 4) (e : Fin 2), held (k0_pay37 (F := Ideal) (iblk m c 3 t)) (offsetByte (iblk m c 4 t)) (ix4 mm k e l)
      = offset (m ((c : Thread nD τ).loc main_arg3)) (m ((c : Thread nD τ).loc main_arg4)) (lane t l) k mm e := by
    intro mm e
    have h1 := half_apply (iblk m c 3 t) k l
    rw [block3] at h1
    have h2 : (fun j => iblk m c 4 t (ix3 j k l)) = fun j => m ((c : Thread nD τ).loc main_arg4) (ix3 (lane t l) k j) := funext fun j => block4 m c t j k l
    have h3 : offsetByte (iblk m c 4 t) mm e k l = offsetOf (fun j => iblk m c 4 t (ix3 j k l)) mm e := rfl
    rw [h2] at h3
    exact congrArg₂ (fun (a : EReal) (v : BitVec 8) => a * FloatOps.uitofp (F := Ideal) .bf16 v) h1 h3
  have hx := block0 m c t b (⟨256 * k.val + r.val, by omega⟩ : Fin 8192)
  have hq := block1 m c t l (⟨128 * k.val + r.val / 2, by omega⟩ : Fin 4096)
  refine congrArg₂ (fun a b : EReal => a * b) (hx.trans (congrArg _ (congrArg (ix3 b (0 : Fin 1)) (Fin.ext ?_)))) ?_
  · show 64 * ((256 * k.val + r.val) / 64) + 32 * ((256 * k.val + r.val) % 2) + (256 * k.val + r.val) % 64 / 2 = 256 * k.val + (64 * (r.val / 64) + 32 * (r.val % 2) + r.val % 64 / 2)
    omega
  · rw [hs, ho]
    exact congrArg (fun v : BitVec 8 => weight v _ _ _) hq

theorem flushed_eq (t : Fin cfg0.N) :
    (dats m 0 c).flushed 5 t = ((cfg0.win 5).blk t).view.read (Elt Ideal) (out m c) := by
  rw [Cert.KernelIdeal.Value.flushed5_A, out_eq]
  funext y
  have h := idx5 t
  have e : ((cfg0.win 5).blk t).view.read (Elt Ideal) (out m c) y = out m c (ix2 (y 0 : Fin 32) (lane t (y 1))) := by
    refine congrArg (out m c) (funext fun a => Fin.ext ?_)
    match a with
    | ⟨0, _⟩ => show win0_5.index t 0 * 32 + 1 * (y 0).val = (y 0).val; rw [h]; show 0 * 32 + 1 * (y 0).val = _; omega
    | ⟨1, _⟩ => show win0_5.index t 1 * 512 + 1 * (y 1).val = 512 * t.val + (y 1).val; rw [h]; show t.val * 512 + 1 * (y 1).val = _; omega
  refine Eq.trans ?_ ((blockVal_apply m c t (y 0) (y 1)).trans e.symm)
  exact congrArg (blockVal (iblk m c 0 t) (iblk m c 1 t) (iblk m c 2 t) (iblk m c 3 t) (iblk m c 4 t)) (eq_ix2 (n0 := 32) (n1 := 512) y)

theorem mem_blk (t : Fin cfg0.N) (i : S32x32768.Idx) (h1 : 512 * t.val ≤ (i 1).val) (h2 : (i 1).val < 512 * t.val + 512) :
    i ∈ ((cfg0.win 5).blk t).view.set := by
  have h := idx5 t
  have h0 : (i 0).val < 32 := (i 0).isLt
  show i ∈ ((View.whole main_v6).slice (win0_5.rect t)).set
  rw [View.set_slice_whole]
  refine Rect.mem_set_unit.mpr fun a => ?_
  match a with
  | ⟨0, _⟩ =>
    show win0_5.index t 0 * 32 ≤ (i 0).val ∧ (i 0).val < win0_5.index t 0 * 32 + 32
    rw [h]; show 0 * 32 ≤ (i 0).val ∧ (i 0).val < 0 * 32 + 32; omega
  | ⟨1, _⟩ =>
    show win0_5.index t 1 * 512 ≤ (i 1).val ∧ (i 1).val < win0_5.index t 1 * 512 + 512
    rw [h]; show t.val * 512 ≤ (i 1).val ∧ (i 1).val < t.val * 512 + 512; omega

theorem flush_all : ∀ t : Fin cfg0.N, (cfg0.win 5).flush t = true :=
  (by decide +kernel : ∀ t : Fin grid0.N, win0_5.flush t = true)

/-- The array the kernel leaves. -/
theorem array_eq : (dats m 0 c).arrAt 5 cfg0.N = out m c := by
  refine (dats m 0 c).arrAt_eq_of_cover 5 (out m c) (fun t _ => flushed_eq m c t) fun i => ?_
  have hi : (i 1).val < 32768 := (i 1).isLt
  have hN : cfg0.N = 64 := rfl
  refine ⟨⟨(i 1).val / 512, by omega⟩, flush_all _, mem_blk _ i ?_ ?_⟩
  · show 512 * ((i 1).val / 512) ≤ (i 1).val; omega
  · show (i 1).val < 512 * ((i 1).val / 512) + 512; omega

/-- The kernel runs, leaves that array and keeps its arguments. -/
theorem run : θ_run defs (onTc (τ := τ) (main (F := Ideal))) ⟨m, fun _ => 0, ρ⟩ fun r => ∀ c : Dev nD,
      r.2.mem ((c : Thread nD τ).loc main_v6) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (array_eq m c), (h c).2⟩) (Cert.KernelIdeal.Value.run_blocks m ρ)

end Cert.KernelIdeal.KernelValue

end
-- ==== Proof.Half.lean ====
/- The value of sixteen half-precision bits, as the kernel and as the reference make it (hand-written, untrusted). -/
module

public import proofs.«01_k».proof.Proof.KernelValue
public import proofs.«01_k».proof.Proof.Gen.ReferenceIdeal.Read

@[expose] public section

set_option maxRecDepth 16384

noncomputable section

namespace Cert.Proof.Half

open Idealize.ShloMosaic Idealize.ShloMosaic.ValueIdx

/-- The value of an exponent and a fraction field. -/
def mag (e f : ℕ) : EReal :=
  if e = 31 then (if f = 0 then ⊤ else ⊥)
  else if e = 0 then (((f : ℝ) * (2 : ℝ) ^ (-24 : ℤ) : ℝ) : EReal)
  else (((1024 + f : ℝ) * (2 : ℝ) ^ ((e : ℤ) - 25) : ℝ) : EReal)

/-- The sign bit's factor. -/
def sign (n : ℕ) : EReal := if n / 32768 = 1 then ((-1 : ℝ) : EReal) else ((1 : ℝ) : EReal)

/-- A single-precision pattern of no sign by its fields. -/
theorem f32_fields (x : BitVec 32) (E F : ℕ) (hx : x.toNat = E * 8388608 + F) (hF : F < 8388608) (hE : E < 256) (hE0 : E ≠ 0) :
    Ideal.ofBits .f32 x = if E = 255 then (if F = 0 then ⊤ else ⊥)
      else ((((8388608 + F : ℕ) : ℝ) * (2 : ℝ) ^ ((E : ℤ) - 150) : ℝ) : EReal) := by
  have h1 : (x.extractLsb' 31 1).toNat = 0 := by
    rw [BitVec.extractLsb'_toNat, Nat.shiftRight_eq_div_pow, hx]; omega
  have h1' : (x.extractLsb' (8 + 23) 1 == 1#1) = false := by
    have : x.extractLsb' 31 1 = 0#1 := BitVec.eq_of_toNat_eq h1
    show (x.extractLsb' 31 1 == 1#1) = false
    rw [this]; rfl
  have h2 : (x.extractLsb' 23 8).toNat = E := by
    rw [BitVec.extractLsb'_toNat, Nat.shiftRight_eq_div_pow, hx]; omega
  have h3 : (x.extractLsb' 0 23).toNat = F := by
    rw [BitVec.extractLsb'_toNat, Nat.shiftRight_eq_div_pow, hx]; omega
  show Ideal.ieee 8 23 x = _
  unfold Ideal.ieee
  simp only [h1', h2, h3]
  have e255 : (2 : ℕ) ^ 8 - 1 = 255 := by norm_num
  rw [e255]
  by_cases hh : E = 255
  · simp [hh]
  · rw [if_neg hh, if_neg hh, if_neg hE0]
    congr 1
    have : (E : ℤ) - (2 ^ (8 - 1) - 1) - ((23 : ℕ) : ℤ) = (E : ℤ) - 150 := by norm_num; ring
    rw [this]
    simp

theorem lit_14 : Ideal.ofBits .f32 0x38800000#32 = (((2 : ℝ) ^ (-14 : ℤ) : ℝ) : EReal) := by
  rw [f32_fields 0x38800000#32 113 0 rfl (by norm_num) (by norm_num) (by norm_num)]
  norm_num
theorem lit_0 : Ideal.ofBits .f32 0x00000000#32 = ((0 : ℝ) : EReal) := by
  simp [Ideal.ofBits, Ideal.ieee, -EReal.coe_mul]
theorem lit_1 : Ideal.ofBits .f32 0x3F800000#32 = ((1 : ℝ) : EReal) := by
  rw [f32_fields 0x3F800000#32 127 0 rfl (by norm_num) (by norm_num) (by norm_num)]
  norm_num
theorem lit_m1 : Ideal.ofBits .f32 0xBF800000#32 = ((-1 : ℝ) : EReal) := by
  simp [Ideal.ofBits, Ideal.ieee, -EReal.coe_mul]; norm_num
theorem lit_2 : Ideal.ofBits .f32 0x40000000#32 = ((2 : ℝ) : EReal) := by
  rw [f32_fields 0x40000000#32 128 0 rfl (by norm_num) (by norm_num) (by norm_num)]
  norm_num
theorem lit_1024 : Ideal.ofBits .f32 0x44800000#32 = ((1024 : ℝ) : EReal) := by
  rw [f32_fields 0x44800000#32 137 0 rfl (by norm_num) (by norm_num) (by norm_num)]
  norm_num
theorem lit_24 : Ideal.ofBits .f32 0x33800000#32 = (((2 : ℝ) ^ (-24 : ℤ) : ℝ) : EReal) := by
  rw [f32_fields 0x33800000#32 103 0 rfl (by norm_num) (by norm_num) (by norm_num)]
  norm_num
theorem lit_inf : Ideal.ofBits .f32 0x7F800000#32 = ⊤ := by
  rw [f32_fields 0x7F800000#32 255 0 rfl (by norm_num) (by norm_num) (by norm_num)]
  norm_num
theorem lit_nan : Ideal.ofBits .f32 0x7FC00000#32 = ⊥ := by
  rw [f32_fields 0x7FC00000#32 255 4194304 rfl (by norm_num) (by norm_num) (by norm_num)]
  norm_num

theorem select_ofBool {α : Type} (p : Bool) (a b : α) : Scalar.select (BitVec.ofBool p) a b = if p = true then a else b := by
  cases p <;> rfl

theorem low15 (v : BitVec 16) : (IntOp.andi (v.setWidth 32) 32767#32).toNat = v.toNat % 32768 := by
  have h := v.isLt
  show ((v.setWidth 32) &&& 32767#32).toNat = _
  rw [BitVec.toNat_and, BitVec.toNat_setWidth]
  show (v.toNat % 2 ^ 32) &&& 32767 = _
  rw [show (32767 : ℕ) = 2 ^ 15 - 1 from rfl, Nat.and_two_pow_sub_one_eq_mod]
  omega

theorem and_two_pow (n i : ℕ) : n &&& 2 ^ i = (n.testBit i).toNat * 2 ^ i := by
  refine Nat.eq_of_testBit_eq fun j => ?_
  by_cases hij : i = j
  · subst hij
    cases h : n.testBit i
    · simp [h]
    · simp [h]
  · cases h : n.testBit i
    · simp [Nat.testBit_two_pow_of_ne hij]
    · simp [Nat.testBit_two_pow_of_ne hij]

theorem signbit (v : BitVec 16) : IntOp.cmpi .ne (IntOp.andi (v.setWidth 32) 32768#32) 0#32 = BitVec.ofBool (decide (v.toNat / 32768 = 1)) := by
  have h := v.isLt
  have hn : (v.setWidth 32 &&& 32768#32).toNat = (v.toNat.testBit 15).toNat * 2 ^ 15 := by
    rw [BitVec.toNat_and, BitVec.toNat_setWidth, Nat.mod_eq_of_lt (by omega)]
    show v.toNat &&& 2 ^ 15 = _
    rw [and_two_pow]
  show BitVec.ofBool ((v.setWidth 32 &&& 32768#32) != 0#32) = _
  congr 1
  rw [Bool.eq_iff_iff, decide_eq_true_iff, bne_iff_ne, ne_eq, ← BitVec.toNat_inj, hn, Nat.testBit_eq_decide_div_mod_eq]
  by_cases hd : v.toNat / 2 ^ 15 % 2 = 1
  · simp [hd]; omega
  · simp [hd]; omega

/-- The kernel's value of sixteen bits. -/
theorem kernel_half (v : BitVec 16) : Cert.KernelIdeal.KernelValue.half v = mag (v.toNat / 1024 % 32) (v.toNat % 1024) * sign v.toNat := by
  have hv := v.isLt
  unfold Cert.KernelIdeal.KernelValue.half
  dsimp only
  have hw := low15 v
  rw [signbit]
  generalize IntOp.andi (v.setWidth 32) 32767#32 = w at hw
  have hs : IntOp.cmpi .ult w 1024#32 = BitVec.ofBool (decide (w.toNat < 1024)) := rfl
  have hb : IntOp.cmpi .uge w 31744#32 = BitVec.ofBool (decide (31744 ≤ w.toNat)) := rfl
  have hsh : (IntOp.shli .vector w 13#32).toNat = w.toNat * 8192 := by
    show (w <<< 13).toNat = _
    rw [BitVec.toNat_shiftLeft, Nat.shiftLeft_eq]; omega
  generalize IntOp.shli .vector w 13#32 = y at hsh
  have hadd : ∀ z : BitVec 32, w.toNat * 8192 + z.toNat < 2 ^ 32 → (IntOp.addi y z).toNat = w.toNat * 8192 + z.toNat := by
    intro z hz
    show (y + z).toNat = _
    rw [BitVec.toNat_add, hsh]; omega
  rw [hs, hb]
  simp only [select_ofBool, decide_eq_true_eq]
  congr 1
  · by_cases h1 : w.toNat < 1024
    · have a := hadd 947912704#32 (by show w.toNat * 8192 + 947912704 < _; omega)
      simp only [if_pos h1, if_neg (show ¬ 31744 ≤ w.toNat by omega)]
      rw [f32_fields _ 113 (w.toNat * 8192) (by rw [a]; show w.toNat * 8192 + 947912704 = _; omega) (by omega) (by norm_num) (by norm_num), lit_14]
      rw [if_neg (by norm_num)]
      unfold mag
      rw [if_neg (show ¬ v.toNat / 1024 % 32 = 31 by omega), if_pos (show v.toNat / 1024 % 32 = 0 by omega), show v.toNat % 1024 = w.toNat by omega, ← EReal.coe_sub]
      refine congrArg (fun z : ℝ => (z : EReal)) ?_
      push_cast
      norm_num
      ring
    · simp only [if_neg h1]
      by_cases h2 : 31744 ≤ w.toNat
      · have a := hadd 1879048192#32 (by show w.toNat * 8192 + 1879048192 < _; omega)
        rw [if_pos h2, f32_fields _ 255 ((w.toNat - 31744) * 8192) (by rw [a]; show w.toNat * 8192 + 1879048192 = _; omega) (by omega) (by norm_num) (by norm_num), lit_0]
        unfold mag
        rw [if_pos (show (255 : ℕ) = 255 from rfl), if_pos (show v.toNat / 1024 % 32 = 31 by omega)]
        by_cases h3 : v.toNat % 1024 = 0
        · rw [if_pos h3, if_pos (show (w.toNat - 31744) * 8192 = 0 by omega)]; rfl
        · rw [if_neg h3, if_neg (show ¬ (w.toNat - 31744) * 8192 = 0 by omega)]; rfl
      · have a := hadd 939524096#32 (by show w.toNat * 8192 + 939524096 < _; omega)
        rw [if_neg h2, f32_fields _ (w.toNat / 1024 + 112) (w.toNat % 1024 * 8192) (by rw [a]; show w.toNat * 8192 + 939524096 = _; omega) (by omega) (by omega) (by omega), lit_0]
        rw [if_neg (show ¬ w.toNat / 1024 + 112 = 255 by omega)]
        unfold mag
        rw [if_neg (show ¬ v.toNat / 1024 % 32 = 31 by omega), if_neg (show ¬ v.toNat / 1024 % 32 = 0 by omega), show v.toNat % 1024 = w.toNat % 1024 by omega, show v.toNat / 1024 % 32 = w.toNat / 1024 by omega, ← EReal.coe_sub]
        refine congrArg (fun z : ℝ => (z : EReal)) ?_
        have : ((w.toNat / 1024 + 112 : ℕ) : ℤ) - 150 = (((w.toNat / 1024 : ℕ) : ℤ) - 25) + (-13) := by push_cast; ring
        rw [this, zpow_add₀ (by norm_num)]
        push_cast
        norm_num
        ring
  · unfold sign
    rw [lit_1, lit_m1]

section
open Cert.ReferenceIdeal Cert.ReferenceIdeal.Read

/-- The reference's value of sixteen bits, one operation a line. -/
def refHalf (v : BitVec 16) : EReal :=
  have b : BitVec 32 := v.setWidth 32
  have e : BitVec 32 := IntOp.andi (IntOp.shrsi .host b 10#32) 31#32
  have f : EReal := FloatOps.sitofp (F := Ideal) .f32 (IntOp.andi b 1023#32)
  Scalar.select (IntOp.cmpi .eq (IntOp.shrsi .host b 15#32) 1#32) (Ideal.ofBits .f32 0xBF800000#32) (Ideal.ofBits .f32 0x3F800000#32)
    * Scalar.select (IntOp.cmpi .eq e 0#32) (f * Ideal.ofBits .f32 0x33800000#32)
        (Scalar.select (IntOp.cmpi .eq e 31#32)
          (Scalar.select (Ideal.cmp .oeq f (Ideal.ofBits .f32 0x00000000#32)) (Ideal.ofBits .f32 0x7F800000#32) (Ideal.ofBits .f32 0x7FC00000#32))
          ((Ideal.ofBits .f32 0x44800000#32 + f) * Ideal.pow (Ideal.ofBits .f32 0x40000000#32) (FloatOps.sitofp (F := Ideal) .f32 (IntOp.subi e 25#32))))

theorem v57_eq (x : S32768x32.Idx → BitVec 16) (i : S32768x32.Idx) : val_main_v57 (F := Ideal) x i = refHalf (x i) := by
  simp only [val_main_v24_apply, val_main_c_7_apply, val_main_v25_apply, val_main_v26_apply, val_main_c_8_apply, val_main_v27_apply, val_main_v28_apply, val_main_c_9_apply, val_main_v29_apply, val_main_v30_apply, val_main_v31_apply, val_main_cst_apply, val_main_v32_apply, val_main_v33_apply, val_main_cst_10_apply, val_main_v34_apply, val_main_c_11_apply, val_main_v35_apply, val_main_v36_apply, val_main_v37_apply, val_main_v38_apply, val_main_v39_apply, val_main_cst_12_apply, val_main_v40_apply, val_main_v41_apply, val_main_cst_13_apply, val_main_cst_14_apply, val_main_call0_v0_apply, val_main_call0_v1_apply, val_main_v42_apply, val_main_c_15_apply, val_main_v43_apply, val_main_v44_apply, val_main_cst_16_apply, val_main_v45_apply, val_main_v46_apply, val_main_c_17_apply, val_main_v47_apply, val_main_v48_apply, val_main_v49_apply, val_main_v50_apply, val_main_c_18_apply, val_main_v51_apply, val_main_v52_apply, val_main_c_19_apply, val_main_v53_apply, val_main_v54_apply, val_main_cst_20_apply, val_main_cst_21_apply, val_main_call3_v0_apply, val_main_call3_v1_apply, val_main_v55_apply, val_main_v56_apply, val_main_v57_apply]
  rfl

theorem v96_eq (x : S32768x32.Idx → BitVec 16) (i : S32768x32.Idx) : val_main_v96 (F := Ideal) x i = refHalf (x i) := by
  simp only [val_main_v63_apply, val_main_c_22_apply, val_main_v64_apply, val_main_v65_apply, val_main_c_23_apply, val_main_v66_apply, val_main_v67_apply, val_main_c_24_apply, val_main_v68_apply, val_main_v69_apply, val_main_v70_apply, val_main_cst_25_apply, val_main_v71_apply, val_main_v72_apply, val_main_cst_26_apply, val_main_v73_apply, val_main_c_27_apply, val_main_v74_apply, val_main_v75_apply, val_main_v76_apply, val_main_v77_apply, val_main_v78_apply, val_main_cst_28_apply, val_main_v79_apply, val_main_v80_apply, val_main_cst_29_apply, val_main_cst_30_apply, val_main_call4_v0_apply, val_main_call4_v1_apply, val_main_v81_apply, val_main_c_31_apply, val_main_v82_apply, val_main_v83_apply, val_main_cst_32_apply, val_main_v84_apply, val_main_v85_apply, val_main_c_33_apply, val_main_v86_apply, val_main_v87_apply, val_main_v88_apply, val_main_v89_apply, val_main_c_34_apply, val_main_v90_apply, val_main_v91_apply, val_main_c_35_apply, val_main_v92_apply, val_main_v93_apply, val_main_cst_36_apply, val_main_cst_37_apply, val_main_call7_v0_apply, val_main_call7_v1_apply, val_main_v94_apply, val_main_v95_apply, val_main_v96_apply]
  rfl

theorem ref_half (v : BitVec 16) : refHalf v = mag (v.toNat / 1024 % 32) (v.toNat % 1024) * sign v.toNat := by
  have hv := v.isLt
  have hb : (v.setWidth 32).toNat = v.toNat := by rw [BitVec.toNat_setWidth]; omega
  unfold refHalf
  dsimp only
  generalize v.setWidth 32 = b at hb
  have hmsb : b.msb = false := by rw [BitVec.msb_eq_false_iff_two_mul_lt]; omega
  have hs : ∀ (k : ℕ) (hk : k < 32), (IntOp.shrsi .host b (BitVec.ofNat 32 k)).toNat = v.toNat / 2 ^ k := by
    intro k hk
    have hk' : (BitVec.ofNat 32 k).toNat = k := by rw [BitVec.toNat_ofNat]; omega
    unfold IntOp.shrsi
    rw [if_pos (by rw [hk']; exact hk), BitVec.sshiftRight', hk', BitVec.sshiftRight_eq_of_msb_false hmsb, BitVec.toNat_ushiftRight, hb, Nat.shiftRight_eq_div_pow]
  have he : (IntOp.andi (IntOp.shrsi .host b 10#32) 31#32).toNat = v.toNat / 1024 % 32 := by
    show (IntOp.shrsi .host b 10#32 &&& 31#32).toNat = _
    rw [BitVec.toNat_and, hs 10 (by norm_num)]
    show v.toNat / 2 ^ 10 &&& 2 ^ 5 - 1 = _
    rw [Nat.and_two_pow_sub_one_eq_mod]
    norm_num
  have hf : (IntOp.andi b 1023#32).toNat = v.toNat % 1024 := by
    show (b &&& 1023#32).toNat = _
    rw [BitVec.toNat_and, hb]
    show v.toNat &&& 2 ^ 10 - 1 = _
    rw [Nat.and_two_pow_sub_one_eq_mod]
  have hsg := hs 15 (by norm_num)
  generalize IntOp.andi (IntOp.shrsi .host b 10#32) 31#32 = e at he
  generalize IntOp.andi b 1023#32 = f at hf
  generalize IntOp.shrsi .host b 15#32 = s at hsg
  have eqi : ∀ x y : BitVec 32, IntOp.cmpi .eq x y = BitVec.ofBool (decide (x.toNat = y.toNat)) := by
    intro x y
    show BitVec.ofBool (x == y) = _
    congr 1
    rw [Bool.eq_iff_iff, decide_eq_true_iff, beq_iff_eq, BitVec.toNat_inj]
  have hfv : (FloatOps.sitofp (F := Ideal) .f32 f : EReal) = (((v.toNat % 1024 : ℕ) : ℝ) : EReal) := by
    show ((f.toInt : ℝ) : EReal) = _
    rw [BitVec.toInt_eq_toNat_of_lt (by omega), hf]
    rfl
  rw [hfv, eqi, eqi, eqi, hsg, he]
  simp only [select_ofBool, decide_eq_true_eq, lit_1, lit_m1, lit_24, lit_inf, lit_nan, lit_1024, lit_2, lit_0]
  rw [mul_comm]
  refine congrArg₂ (fun a b : EReal => a * b) ?_ rfl
  unfold mag
  by_cases h0 : v.toNat / 1024 % 32 = 0
  · rw [if_pos (show v.toNat / 1024 % 32 = (0#32).toNat from h0), if_neg (show ¬ v.toNat / 1024 % 32 = 31 by omega), if_pos h0, ← EReal.coe_mul]
  · rw [if_neg (show ¬ v.toNat / 1024 % 32 = (0#32).toNat from h0)]
    by_cases h1 : v.toNat / 1024 % 32 = 31
    · rw [if_pos (show v.toNat / 1024 % 32 = (31#32).toNat from h1), if_pos h1]
      have : Ideal.cmp .oeq (((v.toNat % 1024 : ℕ) : ℝ) : EReal) ((0 : ℝ) : EReal) = BitVec.ofBool (decide (v.toNat % 1024 = 0)) := by
        unfold Ideal.cmp
        dsimp only
        congr 1
        rw [Bool.eq_iff_iff, decide_eq_true_iff, decide_eq_true_iff, EReal.coe_eq_coe_iff, Nat.cast_eq_zero]
      rw [this]
      simp only [select_ofBool, decide_eq_true_eq]
    · rw [if_neg (show ¬ v.toNat / 1024 % 32 = (31#32).toNat from h1), if_neg h1, if_neg h0]
      have hi : (FloatOps.sitofp (F := Ideal) .f32 (IntOp.subi e 25#32) : EReal) = ((((v.toNat / 1024 % 32 : ℕ) : ℤ) - 25 : ℤ) : ℝ) := by
        show (((IntOp.subi e 25#32).toInt : ℝ) : EReal) = _
        have : (IntOp.subi e 25#32).toInt = ((v.toNat / 1024 % 32 : ℕ) : ℤ) - 25 := by
          show (e - 25#32).toInt = _
          rw [BitVec.toInt_sub, BitVec.toInt_eq_toNat_of_lt (by omega), he]
          show (((v.toNat / 1024 % 32 : ℕ) : ℤ) - 25).bmod (2 ^ 32) = _
          rw [Int.bmod_eq_of_le] <;> omega
        rw [this]
      rw [hi]
      show ((1024 : ℝ) + _) * ((Real.rpow 2 _ : ℝ) : EReal) = _
      rw [← EReal.coe_add, ← EReal.coe_mul]
      refine congrArg (fun z : ℝ => (z : EReal)) ?_
      rw [← Real.rpow_intCast]
      rfl

/-- The two readings agree. -/
theorem half_eq (v : BitVec 16) : refHalf v = Cert.KernelIdeal.KernelValue.half v := (ref_half v).trans (kernel_half v).symm

end

end Cert.Proof.Half

end
-- ==== Proof.RefValue.lean ====
/- The reference's result at an index (hand-written, untrusted). -/
module

public import Idealize.ShloMosaic.Lib.TwoAxisContraction
public import proofs.«01_k».proof.Proof.Half

@[expose] public section

set_option maxRecDepth 16384

noncomputable section

namespace Cert.Proof.RefValue

open Cert.ReferenceIdeal Cert.ReferenceIdeal.Read
open Cert.KernelIdeal.KernelValue (scaleOf offsetOf scale offset half)
open Cert.KernelIdeal.Weights (weight nibble)
open Idealize.ShloMosaic Idealize.ShloMosaic.ValueIdx
open scoped BigOperators

/-! ## Bytes widened to words -/

theorem wide6 (b : BitVec 8) : IntOp.andi (b.setWidth 32) 63#32 = (b &&& 63#8).setWidth 32 := by
  revert b; decide +kernel
theorem wide4 (b : BitVec 8) : IntOp.andi (b.setWidth 32) 15#32 = (b &&& 15#8).setWidth 32 := by
  revert b; decide +kernel
theorem wideTop (b : BitVec 8) : IntOp.shrsi .host (b.setWidth 32) 4#32 = ((b >>> 4) &&& 15#8).setWidth 32 := by
  revert b; decide +kernel
theorem wideHigh (b : BitVec 8) : IntOp.shli .host (IntOp.shrsi .host (b.setWidth 32) 6#32) 4#32 = ((b >>> 2) &&& 48#8).setWidth 32 := by
  revert b; decide +kernel
theorem wideOr (a b : BitVec 8) : IntOp.ori (a.setWidth 32) (b.setWidth 32) = (a ||| b).setWidth 32 :=
  BitVec.setWidth_or.symm
theorem wideVal (b : BitVec 8) : (FloatOps.sitofp (F := Ideal) .f32 (b.setWidth 32) : EReal) = FloatOps.uitofp (F := Ideal) .bf16 b := by
  have h := b.isLt
  have e : (b.setWidth 32).toInt = (b.toNat : ℤ) := by
    have : (b.setWidth 32).toNat = b.toNat := by rw [BitVec.toNat_setWidth]; omega
    rw [BitVec.toInt_eq_toNat_of_lt (by omega), this]
  show (((b.setWidth 32).toInt : ℝ) : EReal) = ((b.toNat : ℝ) : EReal)
  rw [e]; rfl

section
variable (x0 : S32x1x8192.Idx → Ideal .bf16) (x1 : S32768x4096.Idx → BitVec 8) (x2 x3 : S32768x32.Idx → BitVec 16) (x4 : S32768x32x12.Idx → BitVec 8)

/-! ## The six-bit scales and offsets -/

theorem v1_eq (o : Fin 32768) (k : Fin 32) (c : Fin 4) : val_main_v1 (F := Ideal) x4 (ix3 o k c) = (x4 (ix3 o k (⟨c.val, by omega⟩ : Fin 12))).setWidth 32 := by
  rw [val_main_v1_apply, val_main_v0_apply]
  exact congrArg (fun i => (x4 i).setWidth 32) (funext fun a => Fin.ext (match a with | ⟨0, _⟩ => rfl | ⟨1, _⟩ => rfl | ⟨2, _⟩ => rfl))
theorem v2_eq (o : Fin 32768) (k : Fin 32) (c : Fin 4) : val_main_v2 (F := Ideal) x4 (ix3 o k c) = (x4 (ix3 o k (⟨4 + c.val, by omega⟩ : Fin 12))).setWidth 32 := by
  rw [val_main_v2_apply, val_main_v0_apply]
  exact congrArg (fun i => (x4 i).setWidth 32) (funext fun a => Fin.ext (match a with | ⟨0, _⟩ => rfl | ⟨1, _⟩ => rfl | ⟨2, _⟩ => rfl))
theorem v3_eq (o : Fin 32768) (k : Fin 32) (c : Fin 4) : val_main_v3 (F := Ideal) x4 (ix3 o k c) = (x4 (ix3 o k (⟨8 + c.val, by omega⟩ : Fin 12))).setWidth 32 := by
  rw [val_main_v3_apply, val_main_v0_apply]
  exact congrArg (fun i => (x4 i).setWidth 32) (funext fun a => Fin.ext (match a with | ⟨0, _⟩ => rfl | ⟨1, _⟩ => rfl | ⟨2, _⟩ => rfl))

theorem v5_eq (o : Fin 32768) (k : Fin 32) (c : Fin 4) :
    val_main_v5 (F := Ideal) x4 (ix3 o k c) = (x4 (ix3 o k (⟨c.val, by omega⟩ : Fin 12)) &&& 63#8).setWidth 32 := by
  rw [val_main_v5_apply, val_main_v4_apply, val_main_c_apply, v1_eq, wide6]
theorem v7_eq (o : Fin 32768) (k : Fin 32) (c : Fin 4) :
    val_main_v7 (F := Ideal) x4 (ix3 o k c) = (x4 (ix3 o k (⟨4 + c.val, by omega⟩ : Fin 12)) &&& 63#8).setWidth 32 := by
  rw [val_main_v7_apply, val_main_v6_apply, val_main_c_0_apply, v2_eq, wide6]
theorem v14_eq (o : Fin 32768) (k : Fin 32) (c : Fin 4) :
    val_main_v14 (F := Ideal) x4 (ix3 o k c) = ((x4 (ix3 o k (⟨8 + c.val, by omega⟩ : Fin 12)) &&& 15#8) ||| ((x4 (ix3 o k (⟨c.val, by omega⟩ : Fin 12)) >>> 2) &&& 48#8)).setWidth 32 := by
  rw [val_main_v14_apply, val_main_v9_apply, val_main_v8_apply, val_main_c_1_apply, val_main_v13_apply, val_main_v12_apply, val_main_c_3_apply, val_main_v11_apply, val_main_v10_apply, val_main_c_2_apply,
    v3_eq, v1_eq, wide4, wideHigh, wideOr]
theorem v21_eq (o : Fin 32768) (k : Fin 32) (c : Fin 4) :
    val_main_v21 (F := Ideal) x4 (ix3 o k c) = (((x4 (ix3 o k (⟨8 + c.val, by omega⟩ : Fin 12)) >>> 4) &&& 15#8) ||| ((x4 (ix3 o k (⟨4 + c.val, by omega⟩ : Fin 12)) >>> 2) &&& 48#8)).setWidth 32 := by
  rw [val_main_v21_apply, val_main_v16_apply, val_main_v15_apply, val_main_c_4_apply, val_main_v20_apply, val_main_v19_apply, val_main_c_6_apply, val_main_v18_apply, val_main_v17_apply, val_main_c_5_apply,
    v3_eq, v2_eq, wideTop, wideHigh, wideOr]

theorem v22_eq (o : Fin 32768) (k : Fin 32) (m : Fin 4) (e : Fin 2) :
    val_main_v22 (F := Ideal) x4 (ix3 o k (⟨2 * m.val + e.val, by omega⟩ : Fin 8)) = (scaleOf (fun j => x4 (ix3 o k j)) m e).setWidth 32 := by
  unfold val_main_v22 scaleOf
  by_cases h : m.val < 2
  · rw [dif_pos h]
    refine (concatenate_pair_apply_left (s₁ := S32768x32x4) (s₂ := S32768x32x4) (t := S32768x32x8) 2 _ _ _ _ rfl (ix3 o k (⟨2 * m.val + e.val, by omega⟩ : Fin 4)) (fun b => match b with
      | ⟨0, _⟩ => rfl
      | ⟨1, _⟩ => rfl
      | ⟨2, _⟩ => rfl)).trans ?_
    exact v5_eq x4 o k _
  · rw [dif_neg h]
    refine (concatenate_pair_apply_right (s₁ := S32768x32x4) (s₂ := S32768x32x4) (t := S32768x32x8) 2 _ _ _ (ix3 o k (⟨2 * m.val + e.val, by omega⟩ : Fin 8)) rfl rfl (ix3 o k (⟨2 * m.val + e.val - 4, by omega⟩ : Fin 4)) (fun b hb => match b, hb with
      | ⟨0, _⟩, _ => rfl
      | ⟨1, _⟩, _ => rfl
      | ⟨2, _⟩, hb => absurd rfl hb) (by show (2 * m.val + e.val - 4) + 4 = 2 * m.val + e.val; omega)).trans ?_
    refine (v14_eq x4 o k _).trans ?_
    have h1 : (⟨8 + (2 * m.val + e.val - 4), by omega⟩ : Fin 12) = ⟨2 * m.val + e.val + 4, by omega⟩ := Fin.ext (by show 8 + (2 * m.val + e.val - 4) = 2 * m.val + e.val + 4; omega)
    dsimp only
    rw [h1]

theorem v23_eq (o : Fin 32768) (k : Fin 32) (m : Fin 4) (e : Fin 2) :
    val_main_v23 (F := Ideal) x4 (ix3 o k (⟨2 * m.val + e.val, by omega⟩ : Fin 8)) = (offsetOf (fun j => x4 (ix3 o k j)) m e).setWidth 32 := by
  unfold val_main_v23 offsetOf
  by_cases h : m.val < 2
  · rw [dif_pos h]
    refine (concatenate_pair_apply_left (s₁ := S32768x32x4) (s₂ := S32768x32x4) (t := S32768x32x8) 2 _ _ _ _ rfl (ix3 o k (⟨2 * m.val + e.val, by omega⟩ : Fin 4)) (fun b => match b with
      | ⟨0, _⟩ => rfl
      | ⟨1, _⟩ => rfl
      | ⟨2, _⟩ => rfl)).trans ?_
    refine (v7_eq x4 o k _).trans ?_
    have h1 : (⟨4 + (2 * m.val + e.val), by omega⟩ : Fin 12) = ⟨2 * m.val + e.val + 4, by omega⟩ := Fin.ext (by show 4 + (2 * m.val + e.val) = 2 * m.val + e.val + 4; omega)
    dsimp only
    rw [h1]
  · rw [dif_neg h]
    refine (concatenate_pair_apply_right (s₁ := S32768x32x4) (s₂ := S32768x32x4) (t := S32768x32x8) 2 _ _ _ (ix3 o k (⟨2 * m.val + e.val, by omega⟩ : Fin 8)) rfl rfl (ix3 o k (⟨2 * m.val + e.val - 4, by omega⟩ : Fin 4)) (fun b hb => match b, hb with
      | ⟨0, _⟩, _ => rfl
      | ⟨1, _⟩, _ => rfl
      | ⟨2, _⟩, hb => absurd rfl hb) (by show (2 * m.val + e.val - 4) + 4 = 2 * m.val + e.val; omega)).trans ?_
    refine (v21_eq x4 o k _).trans ?_
    have h1 : (⟨8 + (2 * m.val + e.val - 4), by omega⟩ : Fin 12) = ⟨2 * m.val + e.val + 4, by omega⟩ := Fin.ext (by show 8 + (2 * m.val + e.val - 4) = 2 * m.val + e.val + 4; omega)
    have h2 : (⟨4 + (2 * m.val + e.val - 4), by omega⟩ : Fin 12) = ⟨2 * m.val + e.val, by omega⟩ := Fin.ext (by show 4 + (2 * m.val + e.val - 4) = 2 * m.val + e.val; omega)
    dsimp only
    rw [h1, h2]

/-! ## The scales and offsets -/

theorem v62_eq (o : Fin 32768) (k : Fin 32) (m : Fin 4) (e : Fin 2) :
    val_main_v62 (F := Ideal) x2 x4 (ix3 o k (⟨2 * m.val + e.val, by omega⟩ : Fin 8)) = scale x2 x4 o k m e := by
  rw [val_main_v62_apply, val_main_v61_apply, val_main_v60_apply, val_main_v58_apply, val_main_v59_apply, v22_eq, Half.v57_eq, Half.half_eq]
  show (_ : EReal) * FloatOps.sitofp (F := Ideal) .f32 (BitVec.setWidth 32 _) = _
  rw [wideVal]
  refine congrArg₂ (fun a b : EReal => a * b) (congrArg (fun i => half (x2 i)) (funext fun a => Fin.ext ?_)) rfl
  exact match a with | ⟨0, _⟩ => rfl | ⟨1, _⟩ => rfl

theorem v101_eq (o : Fin 32768) (k : Fin 32) (m : Fin 4) (e : Fin 2) :
    val_main_v101 (F := Ideal) x3 x4 (ix3 o k (⟨2 * m.val + e.val, by omega⟩ : Fin 8)) = offset x3 x4 o k m e := by
  rw [val_main_v101_apply, val_main_v100_apply, val_main_v99_apply, val_main_v97_apply, val_main_v98_apply, v23_eq, Half.v96_eq, Half.half_eq]
  show (_ : EReal) * FloatOps.sitofp (F := Ideal) .f32 (BitVec.setWidth 32 _) = _
  rw [wideVal]
  refine congrArg₂ (fun a b : EReal => a * b) (congrArg (fun i => half (x3 i)) (funext fun a => Fin.ext ?_)) rfl
  exact match a with | ⟨0, _⟩ => rfl | ⟨1, _⟩ => rfl

theorem v102_eq (o : Fin 32768) (g : Fin 128) (e : Fin 2) :
    val_main_v102 (F := Ideal) x2 x4 (ix3 o g e) = scale x2 x4 o ⟨g.val / 4, by omega⟩ ⟨g.val % 4, by omega⟩ e := by
  rw [val_main_v102_apply]
  refine Eq.trans (congrArg (val_main_v62 (F := Ideal) x2 x4) (funext fun a => Fin.ext ?_)) (v62_eq x2 x4 o ⟨g.val / 4, by omega⟩ ⟨g.val % 4, by omega⟩ e)
  have ho := o.isLt; have hg := g.isLt; have he := e.isLt
  match a with
  | ⟨0, _⟩ => show ((o.val * 128 + g.val) * 2 + e.val) / 256 = o.val; omega
  | ⟨1, _⟩ => show ((o.val * 128 + g.val) * 2 + e.val) / 8 % 32 = g.val / 4; omega
  | ⟨2, _⟩ => show ((o.val * 128 + g.val) * 2 + e.val) % 8 = 2 * (g.val % 4) + e.val; omega

theorem v103_eq (o : Fin 32768) (g : Fin 128) (e : Fin 2) :
    val_main_v103 (F := Ideal) x3 x4 (ix3 o g e) = offset x3 x4 o ⟨g.val / 4, by omega⟩ ⟨g.val % 4, by omega⟩ e := by
  rw [val_main_v103_apply]
  refine Eq.trans (congrArg (val_main_v101 (F := Ideal) x3 x4) (funext fun a => Fin.ext ?_)) (v101_eq x3 x4 o ⟨g.val / 4, by omega⟩ ⟨g.val % 4, by omega⟩ e)
  have ho := o.isLt; have hg := g.isLt; have he := e.isLt
  match a with
  | ⟨0, _⟩ => show ((o.val * 128 + g.val) * 2 + e.val) / 256 = o.val; omega
  | ⟨1, _⟩ => show ((o.val * 128 + g.val) * 2 + e.val) / 8 % 32 = g.val / 4; omega
  | ⟨2, _⟩ => show ((o.val * 128 + g.val) * 2 + e.val) % 8 = 2 * (g.val % 4) + e.val; omega

/-! ## The weights -/

/-- The weight of parity `e`, byte `j` of group `g`. -/
def refWeight (o : Fin 32768) (g : Fin 128) (j : Fin 32) (e : Fin 2) : EReal :=
  weight (x1 (ix2 o (⟨32 * g.val + j.val, by omega⟩ : Fin 4096))) e
    (scale x2 x4 o ⟨g.val / 4, by omega⟩ ⟨g.val % 4, by omega⟩ e) (offset x3 x4 o ⟨g.val / 4, by omega⟩ ⟨g.val % 4, by omega⟩ e)

theorem v105_eq (o : Fin 32768) (g : Fin 128) (j : Fin 32) :
    val_main_v105 (F := Ideal) x1 (ix3 o g j) = (x1 (ix2 o (⟨32 * g.val + j.val, by omega⟩ : Fin 4096))).setWidth 32 := by
  rw [val_main_v105_apply, val_main_v104_apply]
  refine congrArg (fun i => (x1 i).setWidth 32) (funext fun a => Fin.ext ?_)
  have ho := o.isLt; have hg := g.isLt; have hj := j.isLt
  match a with
  | ⟨0, _⟩ => show ((o.val * 128 + g.val) * 32 + j.val) / 4096 = o.val; omega
  | ⟨1, _⟩ => show ((o.val * 128 + g.val) * 32 + j.val) % 4096 = 32 * g.val + j.val; omega

theorem v117_eq (o : Fin 32768) (g : Fin 128) (j : Fin 32) :
    val_main_v117 (F := Ideal) x1 x2 x3 x4 (ix3 o g j) = refWeight x1 x2 x3 x4 o g j 0 := by
  rw [val_main_v117_apply, val_main_v114_apply, val_main_v108_apply, val_main_v107_apply, val_main_v106_apply, val_main_c_38_apply, v105_eq,
    val_main_v113_apply, val_main_v112_apply, val_main_v116_apply, val_main_v115_apply]
  have e1 : idx_main_v112 (idx_main_v113 (ix3 o g j)) = ix3 o g (0 : Fin 2) := funext fun a => Fin.ext (match a with | ⟨0, _⟩ => rfl | ⟨1, _⟩ => rfl | ⟨2, _⟩ => rfl)
  have e2 : idx_main_v115 (idx_main_v116 (ix3 o g j)) = ix3 o g (0 : Fin 2) := funext fun a => Fin.ext (match a with | ⟨0, _⟩ => rfl | ⟨1, _⟩ => rfl | ⟨2, _⟩ => rfl)
  rw [e1, e2, v102_eq, v103_eq]
  rfl

theorem v123_eq (o : Fin 32768) (g : Fin 128) (j : Fin 32) :
    val_main_v123 (F := Ideal) x1 x2 x3 x4 (ix3 o g j) = refWeight x1 x2 x3 x4 o g j 1 := by
  rw [val_main_v123_apply, val_main_v120_apply, val_main_v111_apply, val_main_v110_apply, val_main_v109_apply, val_main_c_39_apply, v105_eq,
    val_main_v119_apply, val_main_v118_apply, val_main_v122_apply, val_main_v121_apply]
  have e1 : idx_main_v118 (idx_main_v119 (ix3 o g j)) = ix3 o g (1 : Fin 2) := funext fun a => Fin.ext (match a with | ⟨0, _⟩ => rfl | ⟨1, _⟩ => rfl | ⟨2, _⟩ => rfl)
  have e2 : idx_main_v121 (idx_main_v122 (ix3 o g j)) = ix3 o g (1 : Fin 2) := funext fun a => Fin.ext (match a with | ⟨0, _⟩ => rfl | ⟨1, _⟩ => rfl | ⟨2, _⟩ => rfl)
  rw [e1, e2, v102_eq, v103_eq]
  rfl

/-! ## The activations -/

theorem v126_eq (b : Fin 32) (g : Fin 128) (j : Fin 32) :
    val_main_v126 (F := Ideal) x0 (ix4 b (0 : Fin 1) g j) = x0 (ix3 b (0 : Fin 1) (⟨64 * g.val + 32 * (0 : Fin 2).val + j.val, by have := g.isLt; have := j.isLt; show 64 * g.val + 32 * 0 + j.val < 8192; omega⟩ : Fin 8192)) := by
  rw [val_main_v126_apply, val_main_v125_apply, val_main_v124_apply]
  refine congrArg x0 (funext fun a => Fin.ext ?_)
  have hb := b.isLt; have hg := g.isLt; have hj := j.isLt
  match a with
  | ⟨0, _⟩ => show (((((((b.val * 1 + 0) * 128 + g.val) * 32 + j.val) / 4096 * 1 + 0) * 128 + (((b.val * 1 + 0) * 128 + g.val) * 32 + j.val) / 32 % 128) * 2 + 0) * 32 + (((b.val * 1 + 0) * 128 + g.val) * 32 + j.val) % 32) / 8192 = b.val; omega
  | ⟨1, _⟩ => rfl
  | ⟨2, _⟩ => show (((((((b.val * 1 + 0) * 128 + g.val) * 32 + j.val) / 4096 * 1 + 0) * 128 + (((b.val * 1 + 0) * 128 + g.val) * 32 + j.val) / 32 % 128) * 2 + 0) * 32 + (((b.val * 1 + 0) * 128 + g.val) * 32 + j.val) % 32) % 8192 = 64 * g.val + 32 * 0 + j.val; omega

theorem v129_eq (b : Fin 32) (g : Fin 128) (j : Fin 32) :
    val_main_v129 (F := Ideal) x0 (ix4 b (0 : Fin 1) g j) = x0 (ix3 b (0 : Fin 1) (⟨64 * g.val + 32 * (1 : Fin 2).val + j.val, by have := g.isLt; have := j.isLt; show 64 * g.val + 32 * 1 + j.val < 8192; omega⟩ : Fin 8192)) := by
  rw [val_main_v129_apply, val_main_v128_apply, val_main_v124_apply]
  refine congrArg x0 (funext fun a => Fin.ext ?_)
  have hb := b.isLt; have hg := g.isLt; have hj := j.isLt
  match a with
  | ⟨0, _⟩ => show (((((((b.val * 1 + 0) * 128 + g.val) * 32 + j.val) / 4096 * 1 + 0) * 128 + (((b.val * 1 + 0) * 128 + g.val) * 32 + j.val) / 32 % 128) * 2 + (1 + 0)) * 32 + (((b.val * 1 + 0) * 128 + g.val) * 32 + j.val) % 32) / 8192 = b.val; omega
  | ⟨1, _⟩ => rfl
  | ⟨2, _⟩ => show (((((((b.val * 1 + 0) * 128 + g.val) * 32 + j.val) / 4096 * 1 + 0) * 128 + (((b.val * 1 + 0) * 128 + g.val) * 32 + j.val) / 32 % 128) * 2 + (1 + 0)) * 32 + (((b.val * 1 + 0) * 128 + g.val) * 32 + j.val) % 32) % 8192 = 64 * g.val + 32 * 1 + j.val; omega

/-! ## The two contractions -/

theorem dot_apply (L : FVec Ideal S32x1x128x32 .bf16) (R : FVec Ideal S32768x128x32 .bf16) (b : Fin 32) (o : Fin 32768) :
    Host.dotGeneral dot_S32x1x128x32_S32768x128x32_S32x1x32768_23_12_01_0_n_n none L R (ix3 b (0 : Fin 1) o)
      = (∑ g : Fin 128, ∑ j : Fin 32, (L (ix4 b (0 : Fin 1) g j) : EReal) * R (ix3 o g j) : EReal) := by
  let D := dot_S32x1x128x32_S32768x128x32_S32x1x32768_23_12_01_0_n_n
  have hr : D.contr.rank = 2 := rfl
  have c0 : D.contr.size ⟨0, by rw [hr]; omega⟩ = 128 := rfl
  have c1 : D.contr.size ⟨1, by rw [hr]; omega⟩ = 32 := rfl
  refine (Ideal.dotGeneral_apply D none _ L R _).trans ?_
  rw [sum_contr2 D 128 32 hr c0 c1]
  refine Finset.sum_congr rfl fun g _ => Finset.sum_congr rfl fun j _ => ?_
  have h0 := contrEquiv2_symm_val0 D 128 32 hr c0 c1 (g, j)
  have h1 := contrEquiv2_symm_val1 D 128 32 hr c0 c1 (g, j)
  have el : D.lhsIdx (ix3 b (0 : Fin 1) o) ((contrEquiv2 D 128 32 hr c0 c1).symm (g, j)) = ix4 b (0 : Fin 1) g j := by
    funext a; apply Fin.ext
    match a with
    | ⟨0, _⟩ => rfl
    | ⟨1, _⟩ => rfl
    | ⟨2, _⟩ => exact h0
    | ⟨3, _⟩ => exact h1
  have er : D.rhsIdx (ix3 b (0 : Fin 1) o) ((contrEquiv2 D 128 32 hr c0 c1).symm (g, j)) = ix3 o g j := by
    funext a; apply Fin.ext
    match a with
    | ⟨0, _⟩ => rfl
    | ⟨1, _⟩ => exact h0
    | ⟨2, _⟩ => exact h1
  exact congrArg₂ (fun a b : EReal => a * b) (congrArg L el) (congrArg R er)

/-- One product of the reference's sums. -/
def prod (b : Fin 32) (o : Fin 32768) (g : Fin 128) (j : Fin 32) (e : Fin 2) : EReal :=
  (x0 (ix3 b (0 : Fin 1) (⟨64 * g.val + 32 * e.val + j.val, by omega⟩ : Fin 8192)) : EReal) * refWeight x1 x2 x3 x4 o g j e

/-- The reference's result at an index. -/
theorem v133_eq (b : Fin 32) (o : Fin 32768) :
    val_main_v133 (F := Ideal) x0 x1 x2 x3 x4 (ix2 b o)
      = ((∑ g : Fin 128, ∑ j : Fin 32, prod x0 x1 x2 x3 x4 b o g j 0) + ∑ g : Fin 128, ∑ j : Fin 32, prod x0 x1 x2 x3 x4 b o g j 1 : EReal) := by
  rw [val_main_v133_apply, val_main_v132_apply, val_main_v131_apply]
  have e : idx_main_v133 (ix2 b o) = ix3 b (0 : Fin 1) o := by
    have hb := b.isLt; have ho := o.isLt
    funext a; apply Fin.ext
    match a with
    | ⟨0, _⟩ => show (b.val * 32768 + o.val) / 32768 = b.val; omega
    | ⟨1, _⟩ => rfl
    | ⟨2, _⟩ => show (b.val * 32768 + o.val) % 32768 = o.val; omega
  rw [e]
  unfold val_main_v127 val_main_v130
  rw [dot_apply, dot_apply]
  refine congrArg₂ (fun a b : EReal => a + b) ?_ ?_
  · refine Finset.sum_congr rfl fun g _ => Finset.sum_congr rfl fun j _ => ?_
    rw [v126_eq, v117_eq]; rfl
  · refine Finset.sum_congr rfl fun g _ => Finset.sum_congr rfl fun j _ => ?_
    rw [v129_eq, v123_eq]; rfl

end

end Cert.Proof.RefValue

end
-- ==== Proof.Algebraic.lean ====
/- The kernel's result is the reference's (hand-written, untrusted). -/
module

public import proofs.«01_k».proof.Defs
public import proofs.«01_k».proof.Proof.RefValue
public import proofs.«01_k».proof.Proof.Gen.ReferenceIdeal.Run
public import Idealize.ShloMosaic.Lib.Claim

@[expose] public section

set_option maxRecDepth 16384

noncomputable section

namespace Cert.Proof.Algebraic

open Cert.Proof.RefValue (prod)
open Cert.KernelIdeal.KernelValue (entry result)
open Cert.KernelIdeal.Weights (par weight)
open Idealize.ShloMosaic Idealize.ShloMosaic.ValueIdx Idealize.SL.Sem
open Idealize.ShloMosaic.TcCoe Idealize.ShloMosaic.StableHlo
open scoped BigOperators

/-- A super-block and one of its rows are a group, a byte of the group and a parity. -/
def rows : Fin 32 × Fin 256 ≃ Fin 2 × Fin 128 × Fin 32 where
  toFun p := (⟨p.2.val % 2, by omega⟩, ⟨4 * p.1.val + p.2.val / 64, by omega⟩, ⟨p.2.val % 64 / 2, by omega⟩)
  invFun t := (⟨t.2.1.val / 4, by omega⟩, ⟨64 * (t.2.1.val % 4) + 2 * t.2.2.val + t.1.val, by omega⟩)
  left_inv p := by
    obtain ⟨k, r⟩ := p
    refine Prod.ext (Fin.ext ?_) (Fin.ext ?_)
    · show (4 * k.val + r.val / 64) / 4 = k.val; omega
    · show 64 * ((4 * k.val + r.val / 64) % 4) + 2 * (r.val % 64 / 2) + r.val % 2 = r.val; omega
  right_inv t := by
    obtain ⟨e, g, j⟩ := t
    refine Prod.ext (Fin.ext ?_) (Prod.ext (Fin.ext ?_) (Fin.ext ?_))
    · show (64 * (g.val % 4) + 2 * j.val + e.val) % 2 = e.val; omega
    · show 4 * (g.val / 4) + (64 * (g.val % 4) + 2 * j.val + e.val) / 64 = g.val; omega
    · show (64 * (g.val % 4) + 2 * j.val + e.val) % 64 / 2 = j.val; omega

section
variable (x : Cert.KernelIdeal.S32x1x8192.Idx → Ideal .bf16) (q : Cert.KernelIdeal.S32768x4096.Idx → BitVec 8)
  (d dm : Cert.KernelIdeal.S32768x32.Idx → BitVec 16) (s : Cert.KernelIdeal.S32768x32x12.Idx → BitVec 8)

/-- The kernel's sum over super-blocks and rows is the reference's two sums over groups and bytes. -/
theorem entry_eq (b : Fin 32) (o : Fin 32768) :
    entry x q d dm s b o = (∑ g : Fin 128, ∑ j : Fin 32, prod x q d dm s b o g j 0) + ∑ g : Fin 128, ∑ j : Fin 32, prod x q d dm s b o g j 1 := by
  have h : ∑ t : Fin 2 × Fin 128 × Fin 32, prod x q d dm s b o t.2.1 t.2.2 t.1
      = (∑ g : Fin 128, ∑ j : Fin 32, prod x q d dm s b o g j 0) + ∑ g : Fin 128, ∑ j : Fin 32, prod x q d dm s b o g j 1 := by
    rw [Fintype.sum_prod_type, Fin.sum_univ_two, Fintype.sum_prod_type, Fintype.sum_prod_type]
  rw [← h, ← Equiv.sum_comp rows, Fintype.sum_prod_type]
  unfold entry
  refine Finset.sum_congr rfl fun k _ => Finset.sum_congr rfl fun r _ => ?_
  have hk := k.isLt; have hr := r.isLt
  unfold prod Cert.Proof.RefValue.refWeight
  have e1 : (⟨256 * k.val + (64 * (r.val / 64) + 32 * (r.val % 2) + r.val % 64 / 2), by omega⟩ : Fin 8192)
      = ⟨64 * (rows (k, r)).2.1.val + 32 * (rows (k, r)).1.val + (rows (k, r)).2.2.val, by omega⟩ := Fin.ext (by
    show 256 * k.val + (64 * (r.val / 64) + 32 * (r.val % 2) + r.val % 64 / 2) = 64 * (4 * k.val + r.val / 64) + 32 * (r.val % 2) + r.val % 64 / 2
    omega)
  have e2 : (⟨128 * k.val + r.val / 2, by omega⟩ : Fin 4096) = ⟨32 * (rows (k, r)).2.1.val + (rows (k, r)).2.2.val, by omega⟩ := Fin.ext (by
    show 128 * k.val + r.val / 2 = 32 * (4 * k.val + r.val / 64) + r.val % 64 / 2
    omega)
  have e3 : k = (⟨(rows (k, r)).2.1.val / 4, by omega⟩ : Fin 32) := Fin.ext (by
    show k.val = (4 * k.val + r.val / 64) / 4
    omega)
  have e4 : (⟨r.val / 64, by omega⟩ : Fin 4) = ⟨(rows (k, r)).2.1.val % 4, by omega⟩ := Fin.ext (by
    show r.val / 64 = (4 * k.val + r.val / 64) % 4
    omega)
  have e5 : par r.val = (rows (k, r)).1 := rfl
  rw [e1, e2, e4, e5]
  rw [← e3]

/-- The two results are one array. -/
theorem value_eq : Cert.ReferenceIdeal.Read.val_main_v133 (F := Ideal) x q d dm s = result x q d dm s := by
  funext i
  have hi := eq_ix2 (n0 := 32) (n1 := 32768) i
  refine (congrArg (Cert.ReferenceIdeal.Read.val_main_v133 (F := Ideal) x q d dm s) hi).trans ?_
  exact (Cert.Proof.RefValue.v133_eq x q d dm s (i 0) (i 1)).trans (entry_eq x q d dm s (i 0) (i 1)).symm

end

/-- The kernel over the extended reals returns what the reference returns. -/
theorem algebraic : Cert.algebraic_KernelIdeal_ReferenceIdeal := by
  intro m g m' g' _ hargs
  refine ⟨fun c => Cert.KernelIdeal.KernelValue.out m c, Cert.KernelIdeal.KernelValue.run m g, ?_⟩
  refine (θ_run Cert.ReferenceIdeal.defs _ _).mono (fun r h c => ⟨?_, (h c).2⟩) (Cert.ReferenceIdeal.Value.run (F := Ideal) m' g')
  obtain ⟨a0, a1, a2, a3, a4⟩ := hargs c
  refine ((h c).1.trans (Cert.ReferenceIdeal.Read.val_main_v133_eq (launchContents m' c))).trans ?_
  rw [launchContents_devRef, launchContents_devRef, launchContents_devRef, launchContents_devRef, launchContents_devRef, a0, a1, a2, a3, a4]
  exact value_eq _ _ _ _ _

end Cert.Proof.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Claims
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Claims.frame_kernel, Claims.frame_kernelIdeal, Claims.frame_referenceIdeal, Claims.preserves, Algebraic.algebraic⟩

end Cert.Proof

end
